-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  bcast_S_S10000x10000 : S_.BroadcastsInDim S10000x10000 (![] : Fin 0 → Fin S10000x10000.rank)
  bcast_S_S256x256 : S_.BroadcastsInDim S256x256 (![] : Fin 0 → Fin S256x256.rank)

variable [Facts]

def fn {F : FTy → Type} [FloatOps F] (main_arg0 : FVec F S10000x256 .f32) (main_arg1 : FVec F S10000x10000 .f32) (main_arg2 : FVec F S256x256 .f32) (main_arg3 : FVec F S256 .f32) : IVec S10000x256 1 × IVec S10000x10000 1 × IVec S256x256 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S256x256 .f32 := Host.absf main_arg2
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  (main_v2, main_v5, main_v8)
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S3x400x10000 : Shape := ⟨3, ![3, 400, 10000]⟩
abbrev S3 : Shape := ⟨1, ![3]⟩
abbrev S2x400x256 : Shape := ⟨3, ![2, 400, 256]⟩
abbrev S2 : Shape := ⟨1, ![2]⟩
abbrev S1 : Shape := ⟨1, ![1]⟩
abbrev S_ : Shape := ⟨0, ![]⟩
abbrev S1x400x10000 : Shape := ⟨3, ![1, 400, 10000]⟩
abbrev S400x10000 : Shape := ⟨2, ![400, 10000]⟩
abbrev S400x256 : Shape := ⟨2, ![400, 256]⟩
abbrev S1x400x256 : Shape := ⟨3, ![1, 400, 256]⟩

abbrev nBuf : Space → Nat
  | .hbm => 6
  | .vmem => 5
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S3x400x10000, .f32⟩
  | .local _ .vmem, ⟨4, _⟩ => ⟨S2x400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scoped0 : Ref sig .tc := ⟨.vmem, 3, rfl⟩
abbrev cc0_scoped2 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_17_r0 : BitVec 32 := 0#32
  let c3_i32_r0 : BitVec 32 := 3#32
  let v20_r0 : BitVec 32 := Scalar.remui c0_i32_17_r0 c3_i32_r0
  ![v20_r0.toNat]
def k0_off2 : Fin 3 → Nat :=
  let c0_i32_17_r0 : BitVec 32 := 0#32
  let c3_i32_r0 : BitVec 32 := 3#32
  let v20_r0 : BitVec 32 := Scalar.remui c0_i32_17_r0 c3_i32_r0
  let c0_i32_18_r0 : BitVec 32 := 0#32
  let c0_i32_19_r0 : BitVec 32 := 0#32
  ![v20_r0.toNat, 0, 0]
def k0_cond1 : BitVec 1 :=
  let true_25_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c25_i32_r0 : BitVec 32 := 25#32
  let v7_r0 : BitVec 1 := Scalar.cmpi .eq v6_r0 c25_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_24_r0 : BitVec 32 := 0#32
  let v27_r0 : BitVec 1 := Scalar.cmpi .ne v9_r0 c0_i32_24_r0
  let v28_r0 : BitVec 1 := Scalar.andi true_25_r0 v27_r0
  let true_26_r0 : BitVec 1 := 1#1
  let v29_r0 : BitVec 1 := Scalar.andi v28_r0 true_26_r0
  let v30_r0 : BitVec 32 := Scalar.extui v29_r0
  let c0_i32_27_r0 : BitVec 32 := 0#32
  let v31_r0 : BitVec 1 := Scalar.cmpi .ne v30_r0 c0_i32_27_r0
  v31_r0

def k0_off3 : Fin 1 → Nat :=
  let c0_i32_22_r0 : BitVec 32 := 0#32
  let c1_i32_23_r0 : BitVec 32 := 1#32
  let v26_r0 : BitVec 32 := Scalar.addi c0_i32_22_r0 c1_i32_23_r0
  let c3_i32_65_r0 : BitVec 32 := 3#32
  let v68_r0 : BitVec 32 := Scalar.remui v26_r0 c3_i32_65_r0
  ![v68_r0.toNat]
def k0_off4 : Fin 3 → Nat :=
  let c0_i32_22_r0 : BitVec 32 := 0#32
  let c1_i32_23_r0 : BitVec 32 := 1#32
  let v26_r0 : BitVec 32 := Scalar.addi c0_i32_22_r0 c1_i32_23_r0
  let c3_i32_65_r0 : BitVec 32 := 3#32
  let v68_r0 : BitVec 32 := Scalar.remui v26_r0 c3_i32_65_r0
  let c0_i32_67_r0 : BitVec 32 := 0#32
  let c0_i32_68_r0 : BitVec 32 := 0#32
  ![v68_r0.toNat, 0, 0]
def k0_off5 : Fin 2 → Nat :=
  let c400_i32_66_r0 : BitVec 32 := 400#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c25_i32_r0 : BitVec 32 := 25#32
  let v7_r0 : BitVec 1 := Scalar.cmpi .eq v6_r0 c25_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v69_r0 : BitVec 32 := Scalar.muli c400_i32_66_r0 v9_r0
  let c0_i32_69_r0 : BitVec 32 := 0#32
  ![v69_r0.toNat, 0]
@[reducible] def k0_t1_loop : Scf.Loop 32 :=
  let c0_i32_33_r0 : BitVec 32 := 0#32
  let c25_i32_34_r0 : BitVec 32 := 25#32
  let v34_r0 : BitVec 32 := Scalar.addi c0_i32_33_r0 c25_i32_34_r0
  let c1_i32_35_r0 : BitVec 32 := 1#32
  ⟨c0_i32_33_r0, v34_r0, c1_i32_35_r0⟩
def k0_off6 (arg6_r0 : BitVec 32) : Fin 1 → Nat :=
  let c3_i32_127_r0 : BitVec 32 := 3#32
  let v168_r0 : BitVec 32 := Scalar.remui arg6_r0 c3_i32_127_r0
  ![v168_r0.toNat]
def k0_cond2 (k0_t1 : Fin k0_t1_loop.trips) (arg10_r0 : BitVec 32) : BitVec 1 :=
  let true_74_r0 : BitVec 1 := 1#1
  let c1_i32_73_r0 : BitVec 32 := 1#32
  let v76_r0 : BitVec 32 := Scalar.addi arg10_r0 c1_i32_73_r0
  let v77_r0 : BitVec 32 := Scalar.select true_74_r0 v76_r0 arg10_r0
  let c25_i32_75_r0 : BitVec 32 := 25#32
  let v78_r0 : BitVec 1 := Scalar.cmpi .eq v77_r0 c25_i32_75_r0
  let c0_i32_76_r0 : BitVec 32 := 0#32
  let v79_r0 : BitVec 32 := Scalar.select v78_r0 c0_i32_76_r0 v77_r0
  let c0_i32_77_r0 : BitVec 32 := 0#32
  let v80_r0 : BitVec 32 := Scalar.addi v79_r0 c0_i32_77_r0
  let true_79_r0 : BitVec 1 := 1#1
  let c1_i32_78_r0 : BitVec 32 := 1#32
  let v81_r0 : BitVec 32 := Scalar.addi v79_r0 c1_i32_78_r0
  let v82_r0 : BitVec 32 := Scalar.select true_79_r0 v81_r0 v79_r0
  let c25_i32_80_r0 : BitVec 32 := 25#32
  let v83_r0 : BitVec 1 := Scalar.cmpi .eq v82_r0 c25_i32_80_r0
  let c0_i32_81_r0 : BitVec 32 := 0#32
  let v84_r0 : BitVec 32 := Scalar.select v83_r0 c0_i32_81_r0 v82_r0
  let c0_i32_82_r0 : BitVec 32 := 0#32
  let v85_r0 : BitVec 32 := Scalar.addi v84_r0 c0_i32_82_r0
  let v91_r0 : BitVec 1 := Scalar.cmpi .ne v80_r0 v85_r0
  let c0_i32_33_r0 : BitVec 32 := 0#32
  let c1_i32_35_r0 : BitVec 32 := 1#32
  let arg5_r0 : BitVec 32 := Scf.iv c0_i32_33_r0 c1_i32_35_r0 k0_t1
  let c23_i32_r0 : BitVec 32 := 23#32
  let v92_r0 : BitVec 1 := Scalar.cmpi .sge arg5_r0 c23_i32_r0
  let true_88_r0 : BitVec 1 := 1#1
  let v93_r0 : BitVec 1 := Scalar.xori v92_r0 true_88_r0
  let v94_r0 : BitVec 1 := Scalar.andi v91_r0 v93_r0
  let true_89_r0 : BitVec 1 := 1#1
  let v95_r0 : BitVec 1 := Scalar.andi v94_r0 true_89_r0
  let v96_r0 : BitVec 32 := Scalar.extui v95_r0
  let c0_i32_90_r0 : BitVec 32 := 0#32
  let v97_r0 : BitVec 1 := Scalar.cmpi .ne v96_r0 c0_i32_90_r0
  v97_r0

def k0_off7 (arg6_r0 : BitVec 32) : Fin 3 → Nat :=
  let c3_i32_127_r0 : BitVec 32 := 3#32
  let v168_r0 : BitVec 32 := Scalar.remui arg6_r0 c3_i32_127_r0
  let c0_i32_129_r0 : BitVec 32 := 0#32
  let c0_i32_130_r0 : BitVec 32 := 0#32
  ![v168_r0.toNat, 0, 0]
def k0_off8 (arg10_r0 : BitVec 32) : Fin 2 → Nat :=
  let c400_i32_128_r0 : BitVec 32 := 400#32
  let true_79_r0 : BitVec 1 := 1#1
  let true_74_r0 : BitVec 1 := 1#1
  let c1_i32_73_r0 : BitVec 32 := 1#32
  let v76_r0 : BitVec 32 := Scalar.addi arg10_r0 c1_i32_73_r0
  let v77_r0 : BitVec 32 := Scalar.select true_74_r0 v76_r0 arg10_r0
  let c25_i32_75_r0 : BitVec 32 := 25#32
  let v78_r0 : BitVec 1 := Scalar.cmpi .eq v77_r0 c25_i32_75_r0
  let c0_i32_76_r0 : BitVec 32 := 0#32
  let v79_r0 : BitVec 32 := Scalar.select v78_r0 c0_i32_76_r0 v77_r0
  let c1_i32_78_r0 : BitVec 32 := 1#32
  let v81_r0 : BitVec 32 := Scalar.addi v79_r0 c1_i32_78_r0
  let v82_r0 : BitVec 32 := Scalar.select true_79_r0 v81_r0 v79_r0
  let c25_i32_80_r0 : BitVec 32 := 25#32
  let v83_r0 : BitVec 1 := Scalar.cmpi .eq v82_r0 c25_i32_80_r0
  let c0_i32_81_r0 : BitVec 32 := 0#32
  let v84_r0 : BitVec 32 := Scalar.select v83_r0 c0_i32_81_r0 v82_r0
  let c0_i32_82_r0 : BitVec 32 := 0#32
  let v85_r0 : BitVec 32 := Scalar.addi v84_r0 c0_i32_82_r0
  let v169_r0 : BitVec 32 := Scalar.muli c400_i32_128_r0 v85_r0
  let c0_i32_131_r0 : BitVec 32 := 0#32
  ![v169_r0.toNat, 0]
def k0_off9 (arg7_r0 : BitVec 32) : Fin 1 → Nat :=
  let c3_i32_128_r0 : BitVec 32 := 3#32
  let v169_r0 : BitVec 32 := Scalar.remui arg7_r0 c3_i32_128_r0
  ![v169_r0.toNat]
def k0_cond3 (k0_t1 : Fin k0_t1_loop.trips) (arg10_r0 : BitVec 32) : BitVec 1 :=
  let c0_i32_67_r0 : BitVec 32 := 0#32
  let v70_r0 : BitVec 32 := Scalar.addi arg10_r0 c0_i32_67_r0
  let true_69_r0 : BitVec 1 := 1#1
  let c1_i32_68_r0 : BitVec 32 := 1#32
  let v71_r0 : BitVec 32 := Scalar.subi arg10_r0 c1_i32_68_r0
  let v72_r0 : BitVec 32 := Scalar.select true_69_r0 v71_r0 arg10_r0
  let c_m1_i32_70_r0 : BitVec 32 := 4294967295#32
  let v73_r0 : BitVec 1 := Scalar.cmpi .eq v72_r0 c_m1_i32_70_r0
  let c24_i32_71_r0 : BitVec 32 := 24#32
  let v74_r0 : BitVec 32 := Scalar.select v73_r0 c24_i32_71_r0 v72_r0
  let c0_i32_72_r0 : BitVec 32 := 0#32
  let v75_r0 : BitVec 32 := Scalar.addi v74_r0 c0_i32_72_r0
  let v105_r0 : BitVec 1 := Scalar.cmpi .ne v70_r0 v75_r0
  let c0_i32_33_r0 : BitVec 32 := 0#32
  let c1_i32_35_r0 : BitVec 32 := 1#32
  let arg5_r0 : BitVec 32 := Scf.iv c0_i32_33_r0 c1_i32_35_r0 k0_t1
  let c0_i32_65_r0 : BitVec 32 := 0#32
  let v68_r0 : BitVec 1 := Scalar.cmpi .eq arg5_r0 c0_i32_65_r0
  let v106_r0 : BitVec 1 := Scalar.ori v105_r0 v68_r0
  let c0_i32_95_r0 : BitVec 32 := 0#32
  let v107_r0 : BitVec 1 := Scalar.cmpi .sge arg5_r0 c0_i32_95_r0
  let v108_r0 : BitVec 1 := Scalar.andi v106_r0 v107_r0
  let v109_r0 : BitVec 32 := Scalar.extui v108_r0
  let c0_i32_96_r0 : BitVec 32 := 0#32
  let v110_r0 : BitVec 1 := Scalar.cmpi .ne v109_r0 c0_i32_96_r0
  v110_r0

def k0_off10 (arg7_r0 : BitVec 32) : Fin 3 → Nat :=
  let c3_i32_128_r0 : BitVec 32 := 3#32
  let v169_r0 : BitVec 32 := Scalar.remui arg7_r0 c3_i32_128_r0
  let c0_i32_129_r0 : BitVec 32 := 0#32
  let c0_i32_130_r0 : BitVec 32 := 0#32
  ![v169_r0.toNat, 0, 0]
def k0_off11 (arg10_r0 : BitVec 32) : Fin 2 → Nat :=
  let c400_i32_127_r0 : BitVec 32 := 400#32
  let c0_i32_67_r0 : BitVec 32 := 0#32
  let v70_r0 : BitVec 32 := Scalar.addi arg10_r0 c0_i32_67_r0
  let v168_r0 : BitVec 32 := Scalar.muli c400_i32_127_r0 v70_r0
  let c0_i32_131_r0 : BitVec 32 := 0#32
  ![v168_r0.toNat, 0]
def k0_off12 (arg7_r0 : BitVec 32) : Fin 3 → Nat :=
  let c3_i32_99_r0 : BitVec 32 := 3#32
  let v117_r0 : BitVec 32 := Scalar.remui arg7_r0 c3_i32_99_r0
  let v119_r0 : Index := Scalar.indexCast v117_r0
  let c0_r0 : Index := 0#32
  let c0_101_r0 : Index := 0#32
  ![v119_r0.toNat, 0, 0]

def k0_chk2 (arg7_r0 : BitVec 32) : Prop :=
  (∀ a, (k0_off12 arg7_r0) a + S1x400x10000.size a ≤ S3x400x10000.size a)
theorem k0_off12_inb : ∀ (arg7_r0 : BitVec 32) (k0_hw2 : k0_chk2 arg7_r0), ∀ a, (k0_off12 arg7_r0) a + S1x400x10000.size a ≤ S3x400x10000.size a := fun arg7_r0 k0_hw2 => k0_hw2

def k0_off13 (arg8_r0 : BitVec 32) : Fin 3 → Nat :=
  let c2_i32_100_r0 : BitVec 32 := 2#32
  let v118_r0 : BitVec 32 := Scalar.remui arg8_r0 c2_i32_100_r0
  let v130_r0 : Index := Scalar.indexCast v118_r0
  let c0_109_r0 : Index := 0#32
  let c0_110_r0 : Index := 0#32
  ![v130_r0.toNat, 0, 0]

def k0_chk3 (arg8_r0 : BitVec 32) : Prop :=
  (∀ a, (k0_off13 arg8_r0) a + S1x400x256.size a ≤ S2x400x256.size a)
theorem k0_off13_inb : ∀ (arg8_r0 : BitVec 32) (k0_hw3 : k0_chk3 arg8_r0), ∀ a, (k0_off13 arg8_r0) a + S1x400x256.size a ≤ S2x400x256.size a := fun arg8_r0 k0_hw3 => k0_hw3

def k0_off14 (arg8_r0 : BitVec 32) : Fin 1 → Nat :=
  let c2_i32_127_r0 : BitVec 32 := 2#32
  let v168_r0 : BitVec 32 := Scalar.remui arg8_r0 c2_i32_127_r0
  ![v168_r0.toNat]
def k0_cond6 (k0_t1 : Fin k0_t1_loop.trips) (arg10_r0 : BitVec 32) : BitVec 1 :=
  let c0_i32_67_r0 : BitVec 32 := 0#32
  let v70_r0 : BitVec 32 := Scalar.addi arg10_r0 c0_i32_67_r0
  let true_74_r0 : BitVec 1 := 1#1
  let c1_i32_73_r0 : BitVec 32 := 1#32
  let v76_r0 : BitVec 32 := Scalar.addi arg10_r0 c1_i32_73_r0
  let v77_r0 : BitVec 32 := Scalar.select true_74_r0 v76_r0 arg10_r0
  let c25_i32_75_r0 : BitVec 32 := 25#32
  let v78_r0 : BitVec 1 := Scalar.cmpi .eq v77_r0 c25_i32_75_r0
  let c0_i32_76_r0 : BitVec 32 := 0#32
  let v79_r0 : BitVec 32 := Scalar.select v78_r0 c0_i32_76_r0 v77_r0
  let c0_i32_77_r0 : BitVec 32 := 0#32
  let v80_r0 : BitVec 32 := Scalar.addi v79_r0 c0_i32_77_r0
  let v139_r0 : BitVec 1 := Scalar.cmpi .ne v70_r0 v80_r0
  let c0_i32_33_r0 : BitVec 32 := 0#32
  let c1_i32_35_r0 : BitVec 32 := 1#32
  let arg5_r0 : BitVec 32 := Scf.iv c0_i32_33_r0 c1_i32_35_r0 k0_t1
  let c24_i32_66_r0 : BitVec 32 := 24#32
  let v69_r0 : BitVec 1 := Scalar.cmpi .eq arg5_r0 c24_i32_66_r0
  let v140_r0 : BitVec 1 := Scalar.ori v139_r0 v69_r0
  let v141_r0 : BitVec 32 := Scalar.extui v140_r0
  let c0_i32_112_r0 : BitVec 32 := 0#32
  let v142_r0 : BitVec 1 := Scalar.cmpi .ne v141_r0 c0_i32_112_r0
  v142_r0

def k0_off15 (arg10_r0 : BitVec 32) : Fin 2 → Nat :=
  let c400_i32_128_r0 : BitVec 32 := 400#32
  let c0_i32_67_r0 : BitVec 32 := 0#32
  let v70_r0 : BitVec 32 := Scalar.addi arg10_r0 c0_i32_67_r0
  let v169_r0 : BitVec 32 := Scalar.muli c400_i32_128_r0 v70_r0
  let c0_i32_129_r0 : BitVec 32 := 0#32
  ![v169_r0.toNat, 0]
def k0_off16 (arg8_r0 : BitVec 32) : Fin 3 → Nat :=
  let c2_i32_127_r0 : BitVec 32 := 2#32
  let v168_r0 : BitVec 32 := Scalar.remui arg8_r0 c2_i32_127_r0
  let c0_i32_130_r0 : BitVec 32 := 0#32
  let c0_i32_131_r0 : BitVec 32 := 0#32
  ![v168_r0.toNat, 0, 0]
def k0_off17 (arg9_r0 : BitVec 32) : Fin 1 → Nat :=
  let c2_i32_127_r0 : BitVec 32 := 2#32
  let v168_r0 : BitVec 32 := Scalar.remui arg9_r0 c2_i32_127_r0
  ![v168_r0.toNat]
def k0_cond8 (k0_t1 : Fin k0_t1_loop.trips) (arg10_r0 : BitVec 32) : BitVec 1 :=
  let c0_i32_67_r0 : BitVec 32 := 0#32
  let v70_r0 : BitVec 32 := Scalar.addi arg10_r0 c0_i32_67_r0
  let true_69_r0 : BitVec 1 := 1#1
  let c1_i32_68_r0 : BitVec 32 := 1#32
  let v71_r0 : BitVec 32 := Scalar.subi arg10_r0 c1_i32_68_r0
  let v72_r0 : BitVec 32 := Scalar.select true_69_r0 v71_r0 arg10_r0
  let c_m1_i32_70_r0 : BitVec 32 := 4294967295#32
  let v73_r0 : BitVec 1 := Scalar.cmpi .eq v72_r0 c_m1_i32_70_r0
  let c24_i32_71_r0 : BitVec 32 := 24#32
  let v74_r0 : BitVec 32 := Scalar.select v73_r0 c24_i32_71_r0 v72_r0
  let c0_i32_72_r0 : BitVec 32 := 0#32
  let v75_r0 : BitVec 32 := Scalar.addi v74_r0 c0_i32_72_r0
  let v152_r0 : BitVec 1 := Scalar.cmpi .ne v70_r0 v75_r0
  let c0_i32_33_r0 : BitVec 32 := 0#32
  let c1_i32_35_r0 : BitVec 32 := 1#32
  let arg5_r0 : BitVec 32 := Scf.iv c0_i32_33_r0 c1_i32_35_r0 k0_t1
  let c0_i32_65_r0 : BitVec 32 := 0#32
  let v68_r0 : BitVec 1 := Scalar.cmpi .eq arg5_r0 c0_i32_65_r0
  let true_118_r0 : BitVec 1 := 1#1
  let v153_r0 : BitVec 1 := Scalar.xori v68_r0 true_118_r0
  let v154_r0 : BitVec 1 := Scalar.andi v152_r0 v153_r0
  let v155_r0 : BitVec 32 := Scalar.extui v154_r0
  let c0_i32_119_r0 : BitVec 32 := 0#32
  let v156_r0 : BitVec 1 := Scalar.cmpi .ne v155_r0 c0_i32_119_r0
  v156_r0

def k0_off18 (arg10_r0 : BitVec 32) : Fin 2 → Nat :=
  let c400_i32_128_r0 : BitVec 32 := 400#32
  let true_69_r0 : BitVec 1 := 1#1
  let c1_i32_68_r0 : BitVec 32 := 1#32
  let v71_r0 : BitVec 32 := Scalar.subi arg10_r0 c1_i32_68_r0
  let v72_r0 : BitVec 32 := Scalar.select true_69_r0 v71_r0 arg10_r0
  let c_m1_i32_70_r0 : BitVec 32 := 4294967295#32
  let v73_r0 : BitVec 1 := Scalar.cmpi .eq v72_r0 c_m1_i32_70_r0
  let c24_i32_71_r0 : BitVec 32 := 24#32
  let v74_r0 : BitVec 32 := Scalar.select v73_r0 c24_i32_71_r0 v72_r0
  let c0_i32_72_r0 : BitVec 32 := 0#32
  let v75_r0 : BitVec 32 := Scalar.addi v74_r0 c0_i32_72_r0
  let v169_r0 : BitVec 32 := Scalar.muli c400_i32_128_r0 v75_r0
  let c0_i32_129_r0 : BitVec 32 := 0#32
  ![v169_r0.toNat, 0]
def k0_off19 (arg9_r0 : BitVec 32) : Fin 3 → Nat :=
  let c2_i32_127_r0 : BitVec 32 := 2#32
  let v168_r0 : BitVec 32 := Scalar.remui arg9_r0 c2_i32_127_r0
  let c0_i32_130_r0 : BitVec 32 := 0#32
  let c0_i32_131_r0 : BitVec 32 := 0#32
  ![v168_r0.toNat, 0, 0]

def k0_chk1 (k0_t1 : Fin k0_t1_loop.trips) (arg6_r0 : BitVec 32) (arg7_r0 : BitVec 32) (arg8_r0 : BitVec 32) (arg9_r0 : BitVec 32) (arg10_r0 : BitVec 32) : Prop :=
  (∀ (k0_h2 : k0_cond2 k0_t1 arg10_r0 = 1#1), ∀ a, (k0_off6 arg6_r0) a + S1.size a ≤ S3.size a) ∧
  (∀ (k0_h2 : k0_cond2 k0_t1 arg10_r0 = 1#1), ∀ a, (k0_off7 arg6_r0) a + S1x400x10000.size a ≤ S3x400x10000.size a) ∧
  (∀ (k0_h2 : k0_cond2 k0_t1 arg10_r0 = 1#1), ∀ a, (k0_off8 arg10_r0) a + S400x10000.size a ≤ S10000x10000.size a) ∧
  (∀ (k0_h3 : k0_cond3 k0_t1 arg10_r0 = 1#1), ∀ a, (k0_off9 arg7_r0) a + S1.size a ≤ S3.size a) ∧
  (∀ (k0_h3 : k0_cond3 k0_t1 arg10_r0 = 1#1), ∀ a, (k0_off10 arg7_r0) a + S1x400x10000.size a ≤ S3x400x10000.size a) ∧
  (∀ (k0_h3 : k0_cond3 k0_t1 arg10_r0 = 1#1), ∀ a, (k0_off11 arg10_r0) a + S400x10000.size a ≤ S10000x10000.size a) ∧
  (∀ (k0_h6 : k0_cond6 k0_t1 arg10_r0 = 1#1), ∀ a, (k0_off14 arg8_r0) a + S1.size a ≤ S2.size a) ∧
  (∀ (k0_h6 : k0_cond6 k0_t1 arg10_r0 = 1#1), ∀ a, (k0_off15 arg10_r0) a + S400x256.size a ≤ S10000x256.size a) ∧
  (∀ (k0_h6 : k0_cond6 k0_t1 arg10_r0 = 1#1), ∀ a, (k0_off16 arg8_r0) a + S1x400x256.size a ≤ S2x400x256.size a) ∧
  (∀ (k0_h8 : k0_cond8 k0_t1 arg10_r0 = 1#1), ∀ a, (k0_off17 arg9_r0) a + S1.size a ≤ S2.size a) ∧
  (∀ (k0_h8 : k0_cond8 k0_t1 arg10_r0 = 1#1), ∀ a, (k0_off18 arg10_r0) a + S400x256.size a ≤ S10000x256.size a) ∧
  (∀ (k0_h8 : k0_cond8 k0_t1 arg10_r0 = 1#1), ∀ a, (k0_off19 arg9_r0) a + S1x400x256.size a ≤ S2x400x256.size a)
theorem k0_off6_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h2 : k0_cond2 k0_t1 arg10_r0 = 1#1), ∀ a, (k0_off6 arg6_r0) a + S1.size a ≤ S3.size a := fun k0_t1 arg6_r0 arg7_r0 arg8_r0 arg9_r0 arg10_r0 k0_hw1 k0_h2 => k0_hw1.1 k0_h2
theorem k0_off7_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h2 : k0_cond2 k0_t1 arg10_r0 = 1#1), ∀ a, (k0_off7 arg6_r0) a + S1x400x10000.size a ≤ S3x400x10000.size a := fun k0_t1 arg6_r0 arg7_r0 arg8_r0 arg9_r0 arg10_r0 k0_hw1 k0_h2 => k0_hw1.2.1 k0_h2
theorem k0_off8_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h2 : k0_cond2 k0_t1 arg10_r0 = 1#1), ∀ a, (k0_off8 arg10_r0) a + S400x10000.size a ≤ S10000x10000.size a := fun k0_t1 arg6_r0 arg7_r0 arg8_r0 arg9_r0 arg10_r0 k0_hw1 k0_h2 => k0_hw1.2.2.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h3 : k0_cond3 k0_t1 arg10_r0 = 1#1), ∀ a, (k0_off9 arg7_r0) a + S1.size a ≤ S3.size a := fun k0_t1 arg6_r0 arg7_r0 arg8_r0 arg9_r0 arg10_r0 k0_hw1 k0_h3 => k0_hw1.2.2.2.1 k0_h3
theorem k0_off10_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h3 : k0_cond3 k0_t1 arg10_r0 = 1#1), ∀ a, (k0_off10 arg7_r0) a + S1x400x10000.size a ≤ S3x400x10000.size a := fun k0_t1 arg6_r0 arg7_r0 arg8_r0 arg9_r0 arg10_r0 k0_hw1 k0_h3 => k0_hw1.2.2.2.2.1 k0_h3
theorem k0_off11_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h3 : k0_cond3 k0_t1 arg10_r0 = 1#1), ∀ a, (k0_off11 arg10_r0) a + S400x10000.size a ≤ S10000x10000.size a := fun k0_t1 arg6_r0 arg7_r0 arg8_r0 arg9_r0 arg10_r0 k0_hw1 k0_h3 => k0_hw1.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h6 : k0_cond6 k0_t1 arg10_r0 = 1#1), ∀ a, (k0_off14 arg8_r0) a + S1.size a ≤ S2.size a := fun k0_t1 arg6_r0 arg7_r0 arg8_r0 arg9_r0 arg10_r0 k0_hw1 k0_h6 => k0_hw1.2.2.2.2.2.2.1 k0_h6
theorem k0_off15_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h6 : k0_cond6 k0_t1 arg10_r0 = 1#1), ∀ a, (k0_off15 arg10_r0) a + S400x256.size a ≤ S10000x256.size a := fun k0_t1 arg6_r0 arg7_r0 arg8_r0 arg9_r0 arg10_r0 k0_hw1 k0_h6 => k0_hw1.2.2.2.2.2.2.2.1 k0_h6
theorem k0_off16_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h6 : k0_cond6 k0_t1 arg10_r0 = 1#1), ∀ a, (k0_off16 arg8_r0) a + S1x400x256.size a ≤ S2x400x256.size a := fun k0_t1 arg6_r0 arg7_r0 arg8_r0 arg9_r0 arg10_r0 k0_hw1 k0_h6 => k0_hw1.2.2.2.2.2.2.2.2.1 k0_h6
theorem k0_off17_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h8 : k0_cond8 k0_t1 arg10_r0 = 1#1), ∀ a, (k0_off17 arg9_r0) a + S1.size a ≤ S2.size a := fun k0_t1 arg6_r0 arg7_r0 arg8_r0 arg9_r0 arg10_r0 k0_hw1 k0_h8 => k0_hw1.2.2.2.2.2.2.2.2.2.1 k0_h8
theorem k0_off18_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h8 : k0_cond8 k0_t1 arg10_r0 = 1#1), ∀ a, (k0_off18 arg10_r0) a + S400x256.size a ≤ S10000x256.size a := fun k0_t1 arg6_r0 arg7_r0 arg8_r0 arg9_r0 arg10_r0 k0_hw1 k0_h8 => k0_hw1.2.2.2.2.2.2.2.2.2.2.1 k0_h8
theorem k0_off19_inb : ∀ (k0_t1 : Fin k0_t1_loop.trips) (arg6_r0 : BitVec 32) (arg7_r0 : BitVec 32) (arg8_r0 : BitVec 32) (arg9_r0 : BitVec 32) (arg10_r0 : BitVec 32) (k0_hw1 : k0_chk1 k0_t1 arg6_r0 arg7_r0 arg8_r0 arg9_r0 arg10_r0), ∀ (k0_h8 : k0_cond8 k0_t1 arg10_r0 = 1#1), ∀ a, (k0_off19 arg9_r0) a + S1x400x256.size a ≤ S2x400x256.size a := fun k0_t1 arg6_r0 arg7_r0 arg8_r0 arg9_r0 arg10_r0 k0_hw1 k0_h8 => k0_hw1.2.2.2.2.2.2.2.2.2.2.2 k0_h8

def k0_off20 (v35_3_r0 : BitVec 32) : Fin 1 → Nat :=
  let c2_i32_r0 : BitVec 32 := 2#32
  let v61_r0 : BitVec 32 := Scalar.remui v35_3_r0 c2_i32_r0
  ![v61_r0.toNat]

def k0_off21 (v35_4_r0 : BitVec 32) : Fin 2 → Nat :=
  let c400_i32_r0 : BitVec 32 := 400#32
  let true_38_r0 : BitVec 1 := 1#1
  let c1_i32_37_r0 : BitVec 32 := 1#32
  let v36_r0 : BitVec 32 := Scalar.subi v35_4_r0 c1_i32_37_r0
  let v37_r0 : BitVec 32 := Scalar.select true_38_r0 v36_r0 v35_4_r0
  let c_m1_i32_39_r0 : BitVec 32 := 4294967295#32
  let v38_r0 : BitVec 1 := Scalar.cmpi .eq v37_r0 c_m1_i32_39_r0
  let c24_i32_40_r0 : BitVec 32 := 24#32
  let v39_r0 : BitVec 32 := Scalar.select v38_r0 c24_i32_40_r0 v37_r0
  let c0_i32_41_r0 : BitVec 32 := 0#32
  let v40_r0 : BitVec 32 := Scalar.addi v39_r0 c0_i32_41_r0
  let v62_r0 : BitVec 32 := Scalar.muli c400_i32_r0 v40_r0
  let c0_i32_62_r0 : BitVec 32 := 0#32
  ![v62_r0.toNat, 0]

def k0_chk5 (v35_4_r0 : BitVec 32) : Prop :=
  (∀ a, (k0_off21 v35_4_r0) a + S400x256.size a ≤ S10000x256.size a)
theorem k0_off21_inb : ∀ (v35_4_r0 : BitVec 32) (k0_hw5 : k0_chk5 v35_4_r0), ∀ a, (k0_off21 v35_4_r0) a + S400x256.size a ≤ S10000x256.size a := fun v35_4_r0 k0_hw5 => k0_hw5

def k0_off22 (v35_3_r0 : BitVec 32) : Fin 3 → Nat :=
  let c2_i32_r0 : BitVec 32 := 2#32
  let v61_r0 : BitVec 32 := Scalar.remui v35_3_r0 c2_i32_r0
  let c0_i32_63_r0 : BitVec 32 := 0#32
  let c0_i32_64_r0 : BitVec 32 := 0#32
  ![v61_r0.toNat, 0, 0]

def k0_chk4 (v35_3_r0 : BitVec 32) : Prop :=
  (∀ a, (k0_off20 v35_3_r0) a + S1.size a ≤ S2.size a) ∧
  (∀ a, (k0_off22 v35_3_r0) a + S1x400x256.size a ≤ S2x400x256.size a)
theorem k0_off20_inb : ∀ (v35_3_r0 : BitVec 32) (k0_hw4 : k0_chk4 v35_3_r0), ∀ a, (k0_off20 v35_3_r0) a + S1.size a ≤ S2.size a := fun v35_3_r0 k0_hw4 => k0_hw4.1
theorem k0_off22_inb : ∀ (v35_3_r0 : BitVec 32) (k0_hw4 : k0_chk4 v35_3_r0), ∀ a, (k0_off22 v35_3_r0) a + S1x400x256.size a ≤ S2x400x256.size a := fun v35_3_r0 k0_hw4 => k0_hw4.2

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Names.lean ====
/-
  The names of the pieces the kernel's pipeline moves, and the closed forms of the words that select them.

  The kernel streams the 25 blocks of 400 rows of the adjacency matrix through three slots of a VMEM buffer and writes
  the 25 blocks of 400 rows of the result back through two. Each trip of the loop carries five words: the number of
  blocks started, waited, written, written back and the block's index. `ws k` is their value before trip `k`; every
  offset, condition and check the body computes from them is evaluated here once and for all, at each of the 25 trips.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Ring.WriteBehind
public import Idealize.ShloMosaic.Lib.Tactic

@[expose] public section

set_option maxRecDepth 16384

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The pieces: blocks of the two arrays left in HBM, slots of the two buffers, their semaphores -/

/-- The adjacency matrix, where the caller left it. -/
abbrev adjM : Memref sig .tc .hbm S10000x10000 .f32 := Memref.whole main_arg1
/-- The result, where the caller will find it. -/
abbrev outM : Memref sig .tc .hbm S10000x256 .f32 := Memref.whole main_v1
/-- The three-slot buffer of adjacency blocks. -/
abbrev inBuf : Memref sig .tc .vmem S3x400x10000 .f32 := Memref.whole cc0_scoped0
/-- The two-slot buffer of result blocks. -/
abbrev outBuf : Memref sig .tc .vmem S2x400x256 .f32 := Memref.whole cc0_scoped2

abbrev adjOff (b : Fin 25) : Fin 2 → Nat := ![400 * b.val, 0]
theorem adjOff_inb (b : Fin 25) : ∀ a, adjOff b a + S400x10000.size a ≤ S10000x10000.size a := by
  have := b.isLt; intro a; fin_cases a
  · show 400 * b.val + 400 ≤ 10000; omega
  · show 0 + 10000 ≤ 10000; omega
abbrev resOff (b : Fin 25) : Fin 2 → Nat := ![400 * b.val, 0]
theorem resOff_inb (b : Fin 25) : ∀ a, resOff b a + S400x256.size a ≤ S10000x256.size a := by
  have := b.isLt; intro a; fin_cases a
  · show 400 * b.val + 400 ≤ 10000; omega
  · show 0 + 256 ≤ 256; omega
abbrev inOff (s : Fin 3) : Fin 3 → Nat := ![s.val, 0, 0]
theorem inOff_inb (s : Fin 3) : ∀ a, inOff s a + S1x400x10000.size a ≤ S3x400x10000.size a := by
  have := s.isLt; intro a; fin_cases a
  · show s.val + 1 ≤ 3; omega
  · show 0 + 400 ≤ 400; omega
  · show 0 + 10000 ≤ 10000; omega
abbrev outOff (s : Fin 2) : Fin 3 → Nat := ![s.val, 0, 0]
theorem outOff_inb (s : Fin 2) : ∀ a, outOff s a + S1x400x256.size a ≤ S2x400x256.size a := by
  have := s.isLt; intro a; fin_cases a
  · show s.val + 1 ≤ 2; omega
  · show 0 + 400 ≤ 400; omega
  · show 0 + 256 ≤ 256; omega
abbrev inSemOff (s : Fin 3) : Fin 1 → Nat := ![s.val]
theorem inSemOff_inb (s : Fin 3) : ∀ a, inSemOff s a + S1.size a ≤ S3.size a := by
  have := s.isLt; intro a; fin_cases a; show s.val + 1 ≤ 3; omega
abbrev outSemOff (s : Fin 2) : Fin 1 → Nat := ![s.val]
theorem outSemOff_inb (s : Fin 2) : ∀ a, outSemOff s a + S1.size a ≤ S2.size a := by
  have := s.isLt; intro a; fin_cases a; show s.val + 1 ≤ 2; omega

/-- Rows `400 b` to `400 b + 399` of the adjacency matrix. -/
def ablk (b : Fin 25) : Memref sig .tc .hbm S400x10000 .f32 :=
  adjM.slice (Rect.unit (s := S10000x10000) (adjOff b) S400x10000.size (adjOff_inb b)) (fun _ => rfl)
/-- Rows `400 b` to `400 b + 399` of the result. -/
def rblk (b : Fin 25) : Memref sig .tc .hbm S400x256 .f32 :=
  outM.slice (Rect.unit (s := S10000x256) (resOff b) S400x256.size (resOff_inb b)) (fun _ => rfl)
/-- Slot `s` of the adjacency buffer, without its leading axis of size one. -/
def islot (s : Fin 3) : Memref sig .tc .vmem S400x10000 .f32 :=
  (inBuf.slice (Rect.unit (s := S3x400x10000) (inOff s) S1x400x10000.size (inOff_inb s)) (fun _ => rfl)).squeeze S400x10000 squeezes_S1x400x10000_S400x10000
/-- Slot `s` of the result buffer, without its leading axis of size one. -/
def oslot (s : Fin 2) : Memref sig .tc .vmem S400x256 .f32 :=
  (outBuf.slice (Rect.unit (s := S2x400x256) (outOff s) S1x400x256.size (outOff_inb s)) (fun _ => rfl)).squeeze S400x256 squeezes_S1x400x256_S400x256
/-- The semaphore of slot `s` of the adjacency buffer. -/
def isem (s : Fin 3) : DmaSems sig S_ := (cc0_scoped1.slice (Rect.unit (s := S3) (inSemOff s) S1.size (inSemOff_inb s))).squeeze S_ squeezes_S1_S_
/-- The semaphore of slot `s` of the result buffer. -/
def osem (s : Fin 2) : DmaSems sig S_ := (cc0_scoped3.slice (Rect.unit (s := S2) (outSemOff s) S1.size (outSemOff_inb s))).squeeze S_ squeezes_S1_S_

instance (b : Fin 25) : ClosedOff (adjOff b) := ⟨adjOff b, rfl⟩
instance (s : Fin 3) : ClosedOff (inOff s) := ⟨inOff s, rfl⟩
instance (s : Fin 2) : ClosedOff (outOff s) := ⟨outOff s, rfl⟩

/-! ## The five carried words before trip `k` -/

/-- Blocks started: two ahead of the trip, never past 25. -/
def w6 (k : ℕ) : BitVec 32 := BitVec.ofNat 32 (min (k + 2) 25)
/-- Blocks waited for. -/
def w7 (k : ℕ) : BitVec 32 := BitVec.ofNat 32 k
/-- Blocks of the result started on their way back. -/
def w8 (k : ℕ) : BitVec 32 := BitVec.ofNat 32 k
/-- Blocks of the result known to be back: one behind the trip. -/
def w9 (k : ℕ) : BitVec 32 := BitVec.ofNat 32 (k - 1)
/-- The block's index, back at 0 after the last. -/
def w10 (k : ℕ) : BitVec 32 := BitVec.ofNat 32 (k % 25)
/-- The carried words, in the loop's order. -/
abbrev ws (k : ℕ) : BitVec 32 × BitVec 32 × BitVec 32 × BitVec 32 × BitVec 32 := (w6 k, w7 k, w8 k, w9 k, w10 k)

theorem trips_eq : k0_t1_loop.trips = 25 := by decide
theorem trip_lt (k : Fin k0_t1_loop.trips) : k.val < 25 := Nat.lt_of_lt_of_eq k.isLt trips_eq

/-! ### The conditions -/

/-- A trip starts a block exactly if there is one two ahead. -/
theorem cond2_iff : ∀ k : Fin k0_t1_loop.trips, k0_cond2 k (w10 k.val) = 1#1 ↔ k.val + 2 < 25 := by decide
/-- Every trip waits for its block of the adjacency matrix, -/
theorem cond3_eq : ∀ k : Fin k0_t1_loop.trips, k0_cond3 k (w10 k.val) = 1#1 := by decide
/-- every trip sends its block of the result back, -/
theorem cond6_eq : ∀ k : Fin k0_t1_loop.trips, k0_cond6 k (w10 k.val) = 1#1 := by decide
/-- and every trip but the first waits for the block of the result sent back the trip before. -/
theorem cond8_iff : ∀ k : Fin k0_t1_loop.trips, k0_cond8 k (w10 k.val) = 1#1 ↔ 1 ≤ k.val := by decide

/-! ### The offsets -/

theorem off6_eq : ∀ k : Fin k0_t1_loop.trips, k.val + 2 < 25 → k0_off6 (w6 k.val) = inSemOff (Ring.sl 3 (k.val + 2)) := by decide
theorem off7_eq : ∀ k : Fin k0_t1_loop.trips, k.val + 2 < 25 → k0_off7 (w6 k.val) = inOff (Ring.sl 3 (k.val + 2)) := by decide
theorem off8_eq : ∀ k : Fin k0_t1_loop.trips, k.val + 2 < 25 → k0_off8 (w10 k.val) = adjOff (Ring.bk 25 (k.val + 2)) := by decide
theorem off9_eq : ∀ k : Fin k0_t1_loop.trips, k0_off9 (w7 k.val) = inSemOff (Ring.sl 3 k.val) := by decide
theorem off10_eq : ∀ k : Fin k0_t1_loop.trips, k0_off10 (w7 k.val) = inOff (Ring.sl 3 k.val) := by decide
theorem off11_eq : ∀ k : Fin k0_t1_loop.trips, k0_off11 (w10 k.val) = adjOff (Ring.bk 25 k.val) := by decide
theorem off12_eq : ∀ k : Fin k0_t1_loop.trips, k0_off12 (w7 k.val) = inOff (Ring.sl 3 k.val) := by decide
theorem off13_eq : ∀ k : Fin k0_t1_loop.trips, k0_off13 (w8 k.val) = outOff (Ring.sl 2 k.val) := by decide
instance (k : Fin k0_t1_loop.trips) : ClosedOff (k0_off12 (w7 k.val)) := ⟨inOff (Ring.sl 3 k.val), off12_eq k⟩
instance (k : Fin k0_t1_loop.trips) : ClosedOff (k0_off13 (w8 k.val)) := ⟨outOff (Ring.sl 2 k.val), off13_eq k⟩
theorem off14_eq : ∀ k : Fin k0_t1_loop.trips, k0_off14 (w8 k.val) = outSemOff (Ring.sl 2 k.val) := by decide
theorem off15_eq : ∀ k : Fin k0_t1_loop.trips, k0_off15 (w10 k.val) = resOff (Ring.bk 25 k.val) := by decide
theorem off16_eq : ∀ k : Fin k0_t1_loop.trips, k0_off16 (w8 k.val) = outOff (Ring.sl 2 k.val) := by decide
theorem off17_eq : ∀ k : Fin k0_t1_loop.trips, 1 ≤ k.val → k0_off17 (w9 k.val) = outSemOff (Ring.sl 2 (k.val + 1)) := by decide
theorem off18_eq : ∀ k : Fin k0_t1_loop.trips, 1 ≤ k.val → k0_off18 (w10 k.val) = resOff (Ring.bk 25 (k.val - 1)) := by decide
theorem off19_eq : ∀ k : Fin k0_t1_loop.trips, 1 ≤ k.val → k0_off19 (w9 k.val) = outOff (Ring.sl 2 (k.val + 1)) := by decide
theorem off20_eq : k0_off20 (w9 25) = outSemOff (Ring.sl 2 (25 + 1)) := by decide
theorem off21_eq : k0_off21 (w10 25) = resOff (Ring.bk 25 (25 - 1)) := by decide
theorem off22_eq : k0_off22 (w9 25) = outOff (Ring.sl 2 (25 + 1)) := by decide

/-! ### The checks -/

theorem chk1_all : ∀ k : Fin k0_t1_loop.trips, k0_chk1 k (w6 k.val) (w7 k.val) (w8 k.val) (w9 k.val) (w10 k.val) := by decide
theorem chk2_all : ∀ k : Fin k0_t1_loop.trips, k0_chk2 (w7 k.val) := by decide
theorem chk3_all : ∀ k : Fin k0_t1_loop.trips, k0_chk3 (w8 k.val) := by decide
theorem chk4_end : k0_chk4 (w9 25) := by decide
theorem chk5_end : k0_chk5 (w10 25) := by decide

/-! ### The canonical-name equations: the body's slices are the pieces above -/

section Canon

theorem isem_congr {off : Fin 1 → Nat} {s : Fin 3} (e : off = inSemOff s) (hh) :
    (cc0_scoped1.slice (Rect.unit (s := S3) off S1.size hh)).squeeze S_ squeezes_S1_S_ = isem s :=
  congrArg (fun A : DmaSems sig S1 => A.squeeze S_ squeezes_S1_S_) (SemArray.slice_unit_congr _ e _ _)
theorem osem_congr {off : Fin 1 → Nat} {s : Fin 2} (e : off = outSemOff s) (hh) :
    (cc0_scoped3.slice (Rect.unit (s := S2) off S1.size hh)).squeeze S_ squeezes_S1_S_ = osem s :=
  congrArg (fun A : DmaSems sig S1 => A.squeeze S_ squeezes_S1_S_) (SemArray.slice_unit_congr _ e _ _)
theorem islot_congr {off : Fin 3 → Nat} {s : Fin 3} (e : off = inOff s) (hh hs) :
    (inBuf.slice (Rect.unit (s := S3x400x10000) off S1x400x10000.size hh) hs).squeeze S400x10000 squeezes_S1x400x10000_S400x10000 = islot s :=
  congrArg (fun M : Memref sig .tc .vmem S1x400x10000 .f32 => M.squeeze S400x10000 squeezes_S1x400x10000_S400x10000) (Memref.slice_unit_congr _ e _ _ _ _)
theorem oslot_congr {off : Fin 3 → Nat} {s : Fin 2} (e : off = outOff s) (hh hs) :
    (outBuf.slice (Rect.unit (s := S2x400x256) off S1x400x256.size hh) hs).squeeze S400x256 squeezes_S1x400x256_S400x256 = oslot s :=
  congrArg (fun M : Memref sig .tc .vmem S1x400x256 .f32 => M.squeeze S400x256 squeezes_S1x400x256_S400x256) (Memref.slice_unit_congr _ e _ _ _ _)
theorem ablk_congr {off : Fin 2 → Nat} {b : Fin 25} (e : off = adjOff b) (hh hs) :
    adjM.slice (Rect.unit (s := S10000x10000) off S400x10000.size hh) hs = ablk b := Memref.slice_unit_congr _ e _ (adjOff_inb b) _ (fun _ => rfl)
theorem rblk_congr {off : Fin 2 → Nat} {b : Fin 25} (e : off = resOff b) (hh hs) :
    outM.slice (Rect.unit (s := S10000x256) off S400x256.size hh) hs = rblk b := Memref.slice_unit_congr _ e _ (resOff_inb b) _ (fun _ => rfl)

-- the prologue
@[sl_canon] theorem isemP0 (hh) : (cc0_scoped1.slice (Rect.unit (s := S3) k0_off1 S1.size hh)).squeeze S_ squeezes_S1_S_ = isem 0 := isem_congr (by decide) _
@[sl_canon] theorem isemP1 (hh) : (cc0_scoped1.slice (Rect.unit (s := S3) k0_off3 S1.size hh)).squeeze S_ squeezes_S1_S_ = isem 1 := isem_congr (by decide) _
@[sl_canon] theorem islotP0 (hh hs) : (inBuf.slice (Rect.unit (s := S3x400x10000) k0_off2 S1x400x10000.size hh) hs).squeeze S400x10000 squeezes_S1x400x10000_S400x10000 = islot 0 := islot_congr (by decide) _ _
@[sl_canon] theorem islotP1 (hh hs) : (inBuf.slice (Rect.unit (s := S3x400x10000) k0_off4 S1x400x10000.size hh) hs).squeeze S400x10000 squeezes_S1x400x10000_S400x10000 = islot 1 := islot_congr (by decide) _ _
@[sl_canon] theorem ablkP0 (hh hs) : adjM.slice (Rect.unit (s := S10000x10000) ![0, 0] S400x10000.size hh) hs = ablk 0 := ablk_congr (by decide) _ _
@[sl_canon] theorem ablkP1 (hh hs) : adjM.slice (Rect.unit (s := S10000x10000) k0_off5 S400x10000.size hh) hs = ablk 1 := ablk_congr (by decide) _ _

-- trip `k`
@[sl_canon] theorem isemI (k : Fin k0_t1_loop.trips) (h : k.val + 2 < 25) (hh) :
    (cc0_scoped1.slice (Rect.unit (s := S3) (k0_off6 (w6 k.val)) S1.size hh)).squeeze S_ squeezes_S1_S_ = isem (Ring.sl 3 (k.val + 2)) := isem_congr (off6_eq k h) _
@[sl_canon] theorem islotI (k : Fin k0_t1_loop.trips) (h : k.val + 2 < 25) (hh hs) :
    (inBuf.slice (Rect.unit (s := S3x400x10000) (k0_off7 (w6 k.val)) S1x400x10000.size hh) hs).squeeze S400x10000 squeezes_S1x400x10000_S400x10000 = islot (Ring.sl 3 (k.val + 2)) := islot_congr (off7_eq k h) _ _
@[sl_canon] theorem ablkI (k : Fin k0_t1_loop.trips) (h : k.val + 2 < 25) (hh hs) :
    adjM.slice (Rect.unit (s := S10000x10000) (k0_off8 (w10 k.val)) S400x10000.size hh) hs = ablk (Ring.bk 25 (k.val + 2)) := ablk_congr (off8_eq k h) _ _
@[sl_canon] theorem isemW (k : Fin k0_t1_loop.trips) (hh) :
    (cc0_scoped1.slice (Rect.unit (s := S3) (k0_off9 (w7 k.val)) S1.size hh)).squeeze S_ squeezes_S1_S_ = isem (Ring.sl 3 k.val) := isem_congr (off9_eq k) _
@[sl_canon] theorem islotW (k : Fin k0_t1_loop.trips) (hh hs) :
    (inBuf.slice (Rect.unit (s := S3x400x10000) (k0_off10 (w7 k.val)) S1x400x10000.size hh) hs).squeeze S400x10000 squeezes_S1x400x10000_S400x10000 = islot (Ring.sl 3 k.val) := islot_congr (off10_eq k) _ _
@[sl_canon] theorem ablkW (k : Fin k0_t1_loop.trips) (hh hs) :
    adjM.slice (Rect.unit (s := S10000x10000) (k0_off11 (w10 k.val)) S400x10000.size hh) hs = ablk (Ring.bk 25 k.val) := ablk_congr (off11_eq k) _ _
@[sl_canon] theorem osemS (k : Fin k0_t1_loop.trips) (hh) :
    (cc0_scoped3.slice (Rect.unit (s := S2) (k0_off14 (w8 k.val)) S1.size hh)).squeeze S_ squeezes_S1_S_ = osem (Ring.sl 2 k.val) := osem_congr (off14_eq k) _
@[sl_canon] theorem rblkS (k : Fin k0_t1_loop.trips) (hh hs) :
    outM.slice (Rect.unit (s := S10000x256) (k0_off15 (w10 k.val)) S400x256.size hh) hs = rblk (Ring.bk 25 k.val) := rblk_congr (off15_eq k) _ _
@[sl_canon] theorem oslotS (k : Fin k0_t1_loop.trips) (hh hs) :
    (outBuf.slice (Rect.unit (s := S2x400x256) (k0_off16 (w8 k.val)) S1x400x256.size hh) hs).squeeze S400x256 squeezes_S1x400x256_S400x256 = oslot (Ring.sl 2 k.val) := oslot_congr (off16_eq k) _ _
@[sl_canon] theorem osemB (k : Fin k0_t1_loop.trips) (h : 1 ≤ k.val) (hh) :
    (cc0_scoped3.slice (Rect.unit (s := S2) (k0_off17 (w9 k.val)) S1.size hh)).squeeze S_ squeezes_S1_S_ = osem (Ring.sl 2 (k.val + 1)) := osem_congr (off17_eq k h) _
@[sl_canon] theorem rblkB (k : Fin k0_t1_loop.trips) (h : 1 ≤ k.val) (hh hs) :
    outM.slice (Rect.unit (s := S10000x256) (k0_off18 (w10 k.val)) S400x256.size hh) hs = rblk (Ring.bk 25 (k.val - 1)) := rblk_congr (off18_eq k h) _ _
@[sl_canon] theorem oslotB (k : Fin k0_t1_loop.trips) (h : 1 ≤ k.val) (hh hs) :
    (outBuf.slice (Rect.unit (s := S2x400x256) (k0_off19 (w9 k.val)) S1x400x256.size hh) hs).squeeze S400x256 squeezes_S1x400x256_S400x256 = oslot (Ring.sl 2 (k.val + 1)) := oslot_congr (off19_eq k h) _ _

-- the epilogue
@[sl_canon] theorem osemE (hh) : (cc0_scoped3.slice (Rect.unit (s := S2) (k0_off20 (w9 25)) S1.size hh)).squeeze S_ squeezes_S1_S_ = osem (Ring.sl 2 (25 + 1)) := osem_congr off20_eq _
@[sl_canon] theorem rblkE (hh hs) : outM.slice (Rect.unit (s := S10000x256) (k0_off21 (w10 25)) S400x256.size hh) hs = rblk (Ring.bk 25 (25 - 1)) := rblk_congr off21_eq _ _
@[sl_canon] theorem oslotE (hh hs) : (outBuf.slice (Rect.unit (s := S2x400x256) (k0_off22 (w9 25)) S1x400x256.size hh) hs).squeeze S400x256 squeezes_S1x400x256_S400x256 = oslot (Ring.sl 2 (25 + 1)) := oslot_congr off22_eq _ _

end Canon

end Cert.Proof.Gcn

end
-- ==== Proof.Trip.lean ====
/-
  One trip of the kernel's loop, and the loop.

  A trip starts the block of the adjacency matrix two ahead, waits for its own, computes its block of the result from
  it, sends that back, and waits for the block sent back the trip before. The first trip has nothing to wait for on the
  way out and the last two have nothing left to start, so there are three runs; between trips the resources are
  `resAt k`, which names each slot by its role.
-/
module

public import proofs.«01_k».proof.Proof.Names
public import Idealize.ShloMosaic.Lib.DeliveryRep
public import Idealize.ShloMosaic.Lib.Pipeline.Value
public import Idealize.ShloMosaic.Lib.VecWindow

@[expose] public section

set_option maxRecDepth 16384

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds beside the counters of the kernel's own transfers -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The pieces held: a semaphore at zero, a slot, a block at home, a slot in flight -/

section Pieces
variable (c : Dev nD) (XA : Buf (Elt F) (adjM.view.loc (c : Thread nD τ))) (XR : Buf (Elt F) (outM.view.loc (c : Thread nD τ)))

abbrev icell (s : Fin 3) : sProp 𝕄 := semVal ((c : Thread nD τ), SemLoc.dma (isem s).sem) 0
abbrev ocell (s : Fin 2) : sProp 𝕄 := semVal ((c : Thread nD τ), SemLoc.dma (osem s).sem) 0
abbrev islotP (s : Fin 3) (f : Buf (Elt F) ((islot s).view.loc (c : Thread nD τ))) : sProp 𝕄 :=
  (islot s).view.loc (c : Thread nD τ) ↦[(islot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Block `b` of the adjacency matrix, held at the matrix's contents. -/
abbrev homeP (b : Fin 25) : sProp 𝕄 := (ablk b).view.loc (c : Thread nD τ) ↦[(ablk b).view.set]{fullShare} XA
/-- Block `b` of the result not yet written: held at what the buffer held before. -/
abbrev aheadP (b : Fin 25) : sProp 𝕄 := (rblk b).view.loc (c : Thread nD τ) ↦[(rblk b).view.set]{fullShare} XR
/-- Block `b` of the result written: held at the values `v`. -/
abbrev doneP (b : Fin 25) (v : S400x256.Idx → Elt F .f32) : sProp 𝕄 :=
  (rblk b).view.loc (c : Thread nD τ) ↦[(rblk b).view.set]{fullShare} (rblk b).view.rep v
/-- What the copy of block `b` leaves in slot `s` over `f`. -/
abbrev landed (s : Fin 3) (b : Fin 25) (f : Buf (Elt F) ((islot s).view.loc (c : Thread nD τ))) : Buf (Elt F) ((islot s).view.loc (c : Thread nD τ)) :=
  (islot s).view.writes (Elt F) f [⟨Rect.whole S400x10000, ReadAs.same.apply ((ablk b).view.read (Elt F) XA)⟩]
/-- Slot `s` in flight with block `b` of the adjacency matrix (the amount: the block's bytes over 32, its rows padded to 10112 lanes). -/
abbrev iflight (s : Fin 3) (b : Fin 25) (f : Buf (Elt F) ((islot s).view.loc (c : Thread nD τ))) : sProp 𝕄 :=
  Transfers.Flight countersEmb (c : Thread nD τ) (SemLoc.dma (isem s).sem) () 505600 iprop(islotP c s (landed c XA s b f) ∗ homeP c XA b)
/-- Slot `s` on its way out to block `b` of the result with the values `v`. -/
abbrev oflight (s : Fin 2) (b : Fin 25) (v : S400x256.Idx → Elt F .f32) (f : Buf (Elt F) ((oslot s).view.loc (c : Thread nD τ))) : sProp 𝕄 :=
  Transfers.Flight countersEmb (c : Thread nD τ) (SemLoc.dma (osem s).sem) () 12800 iprop(doneP c b v ∗ oslotP c s f)
/-- A slot of the adjacency buffer with nothing in flight. -/
abbrev ifree (s : Fin 3) : sProp 𝕄 := iprop((∃ f, islotP c s f) ∗ icell c s)
/-- A slot of the result buffer with nothing in flight. -/
abbrev ofree (s : Fin 2) : sProp 𝕄 := iprop((∃ f, oslotP c s f) ∗ ocell c s)

end Pieces

/-! ## The values: block `b` of the matrix, what a trip computes from it -/

section Values
variable (c : Dev nD) (XA : Buf (Elt F) (adjM.view.loc (c : Thread nD τ)))

/-- Block `b` of the adjacency matrix's values. -/
abbrev adjV (b : Fin 25) : S400x10000.Idx → Elt F .f32 := (ablk b).view.read (Elt F) XA

/-- Block `b` of the result, computed from block `b` of the matrix and the three arrays held whole. -/
def outV (xv : Vec F S10000x256 .f32) (wv : Vec F S256x256 .f32) (bv : Vec F S1x256 .f32) (b : Fin 25) : S400x256.Idx → Elt F .f32 :=
  k0_pay1 (shapeCast S1x400x10000 (adjV c XA b) (by decide)) xv wv bv

omit [FloatOps F] in
/-- Loading slot `s` through the whole buffer, after a block `v` was copied into it, gives `v` with a leading axis. -/
theorem load_landed {off : Fin 3 → Nat} {s : Fin 3} (e : off = inOff s) (hh) (g : (islot s).view.ty.Contents (Elt F)) (v : S400x10000.Idx → Elt F .f32) :
    inBuf.view.readAt (Elt F) (Rect.unit (s := S3x400x10000) off S1x400x10000.size hh).toLoadRect
      ((islot s).view.writes (Elt F) g [⟨Rect.whole S400x10000, v⟩]) = shapeCast S1x400x10000 v (by decide) := by
  subst e
  have h := View.read_writes_whole (islot s).view g v
  have hc : shapeCast S400x10000 ((inBuf.view.readAt (Elt F) (Rect.unit (s := S3x400x10000) (inOff s) S1x400x10000.size (inOff_inb s)).toLoadRect
      ((islot s).view.writes (Elt F) g [⟨Rect.whole S400x10000, v⟩]) : S1x400x10000.Idx → Elt F .f32)) shapeCasts_S1x400x10000_S400x10000 = v := h
  conv_rhs => rw [← hc]
  exact (shapeCast_shapeCast (s := S1x400x10000) (t := S400x10000) _ (by decide) (by decide)).symm

omit [FloatOps F] in
/-- Slot `s` of the result buffer, read after a block was stored into it through the whole buffer, is that block. -/
theorem read_stored {off : Fin 3 → Nat} {s : Fin 2} (e : off = outOff s) (hh) (f : (oslot s).view.ty.Contents (Elt F)) (v : FVec F S400x256 .f32) :
    (oslot s).view.read (Elt F) (View.write (Elt F) (outBuf.access (Rect.unit (s := S2x400x256) off S1x400x256.size hh)) f (k0_pay2 v) Finset.univ) = v := by
  subst e
  have h : (outBuf.access (Rect.unit (s := S2x400x256) (outOff s) S1x400x256.size hh)).read (Elt F)
      (View.write (Elt F) (outBuf.access (Rect.unit (s := S2x400x256) (outOff s) S1x400x256.size hh)) f (k0_pay2 v) Finset.univ) = k0_pay2 v :=
    View.read_write_univ _ _
  have h2 : (oslot s).view.read (Elt F) (View.write (Elt F) (outBuf.access (Rect.unit (s := S2x400x256) (outOff s) S1x400x256.size hh)) f (k0_pay2 v) Finset.univ)
      = shapeCast S400x256 ((outBuf.access (Rect.unit (s := S2x400x256) (outOff s) S1x400x256.size hh)).read (Elt F)
      (View.write (Elt F) (outBuf.access (Rect.unit (s := S2x400x256) (outOff s) S1x400x256.size hh)) f (k0_pay2 v) Finset.univ) : S1x400x256.Idx → Elt F .f32) shapeCasts_S1x400x256_S400x256 := rfl
  rw [h2, h]
  exact shapeCast_shapeCast (s := S400x256) (t := S1x400x256) _ (by decide) (by decide)

/-- The copy out of slot `s`, the slot holding `v`, delivers the block at `v` and the slot at `v`. -/
theorem flight_out (s : Fin 2) (b : Fin 25) (XR : Buf (Elt F) (outM.view.loc (c : Thread nD τ))) (f : Buf (Elt F) ((oslot s).view.loc (c : Thread nD τ)))
    (v : S400x256.Idx → Elt F .f32) (h : (oslot s).view.read (Elt F) f = v) :
    (Transfers.Flight countersEmb (c : Thread nD τ) (SemLoc.dma (osem s).sem) () 12800
        iprop(((rblk b).view.loc (c : Thread nD τ) ↦[(rblk b).view.set]{fullShare} (rblk b).view.writes (Elt F) XR [⟨Rect.whole S400x256, ReadAs.same.apply ((oslot s).view.read (Elt F) f)⟩])
          ∗ ((oslot s).view.loc (c : Thread nD τ) ↦[(oslot s).view.set]{fullShare} f)) : sProp 𝕄)
      ⊢ oflight c s b v ((oslot s).view.rep v) :=
  Transfers.Flight_mono countersEmb (c : Thread nD τ) (delivery_rep (c : Thread nD τ) (oslot s) (rblk b) fullShare fullShare f XR _ v rfl h)

end Values

/-! ## One trip -/

section Trip
variable (c : Dev nD) (XA : Buf (Elt F) (adjM.view.loc (c : Thread nD τ))) (XR : Buf (Elt F) (outM.view.loc (c : Thread nD τ)))
  (arg0 : Memref sig .tc .vmem S10000x256 .f32) (harg0 : arg0.IsWhole)
  (arg1 : Memref sig .tc .vmem S256x256 .f32) (harg1 : arg1.IsWhole)
  (arg2 : Memref sig .tc .vmem S1x256 .f32) (harg2 : arg2.IsWhole)
  (gx : Buf (Elt F) (arg0.view.loc (c : Thread nD τ))) (gw : Buf (Elt F) (arg1.view.loc (c : Thread nD τ))) (gb : Buf (Elt F) (arg2.view.loc (c : Thread nD τ)))
  (v9 v26 : BitVec 32) (v28 : BitVec 1)

abbrev xP : sProp 𝕄 := arg0.view.loc (c : Thread nD τ) ↦[arg0.view.set]{fullShare} gx
abbrev wP : sProp 𝕄 := arg1.view.loc (c : Thread nD τ) ↦[arg1.view.set]{fullShare} gw
abbrev bP : sProp 𝕄 := arg2.view.loc (c : Thread nD τ) ↦[arg2.view.set]{fullShare} gb
/-- Block `b` of the result, from the staging buffers' contents. -/
abbrev outG (b : Fin 25) : S400x256.Idx → Elt F .f32 :=
  outV c XA (arg0.view.read (Elt F) gx) (arg1.view.read (Elt F) gw) (arg2.view.read (Elt F) gb) b

/-- What a trip stores is its block of the result: the loads are the block just landed and the staging buffers whole. -/
theorem stored_eq (k : Fin k0_t1_loop.trips) (h2 : k0_chk2 (w7 k.val)) :
    k0_pay1 (inBuf.view.readAt (Elt F) (Rect.unit (s := S3x400x10000) (k0_off12 (w7 k.val)) S1x400x10000.size (k0_off12_inb _ h2)).toLoadRect
        ((islot (Ring.sl 3 k.val)).view.writes (Elt F) (islot (Ring.sl 3 k.val)).view.junk [⟨Rect.whole S400x10000, ReadAs.same.apply (adjV c XA (Ring.bk 25 k.val))⟩]))
      (arg0.view.readAt (Elt F) (Rect.unit ![0, 0] S10000x256.size inb_S10000x256_S10000x256_0_0).toLoadRect gx)
      (arg1.view.readAt (Elt F) (Rect.unit ![0, 0] S256x256.size inb_S256x256_S256x256_0_0).toLoadRect gw)
      (arg2.view.readAt (Elt F) (Rect.unit ![0, 0] S1x256.size inb_S1x256_S1x256_0_0).toLoadRect gb)
    = outG c XA arg0 arg1 arg2 gx gw gb (Ring.bk 25 k.val) := by
  rw [load_landed (off12_eq k), View.readAt_full arg0.view gx, View.readAt_full arg1.view gw, View.readAt_full arg2.view gb]
  rfl

abbrev tripG (k : Fin k0_t1_loop.trips) : Prog (TpuEff nD τ sig (Elt F) Λ₀ .tc) (BitVec 32 × BitVec 32 × BitVec 32 × BitVec 32 × BitVec 32) :=
  k0_t1_body (F := F) arg0 harg0 arg1 harg1 arg2 harg2 adjM (Memref.isWhole_whole _) outM (Memref.isWhole_whole _) inBuf (Memref.isWhole_whole _) cc0_scoped1 outBuf (Memref.isWhole_whole _) cc0_scoped3 v9 v26 v28 k (ws k.val)

/-- What every trip keeps: the three staging buffers and the core's waits. -/
abbrev keptP : sProp 𝕄 := iprop(xP c arg0 gx ∗ wP c arg1 gw ∗ bP c arg2 gb ∗ ∃ W, owes (c : Thread nD τ) 0 W)

/-- The first trip: it starts block 2 and sends block 0 back; nothing is on its way out before it. -/
theorem tripFirst (k : Fin k0_t1_loop.trips) (hk : k.val = 0) :
    iprop(keptP c arg0 arg1 arg2 gx gw gb
        ∗ homeP c XA (Ring.bk 25 (k.val + 2)) ∗ ifree c (Ring.sl 3 (k.val + 2))
        ∗ (∃ f, iflight c XA (Ring.sl 3 k.val) (Ring.bk 25 k.val) f)
        ∗ aheadP c XR (Ring.bk 25 k.val) ∗ ofree c (Ring.sl 2 k.val))
      ⊢ wp frame (wpE (defs₀ (F := F)) 𝒱₀ (c : Thread nD τ) none) Set.univ (tripG arg0 harg0 arg1 harg1 arg2 harg2 v9 v26 v28 k)
        (fun acc => iprop(⌜acc = ws (k.val + 1)⌝ ∗ keptP c arg0 arg1 arg2 gx gw gb
          ∗ (∃ f, iflight c XA (Ring.sl 3 (k.val + 2)) (Ring.bk 25 (k.val + 2)) f)
          ∗ homeP c XA (Ring.bk 25 k.val) ∗ ifree c (Ring.sl 3 k.val)
          ∗ (∃ f, oflight c (Ring.sl 2 k.val) (Ring.bk 25 k.val) (outG c XA arg0 arg1 arg2 gx gw gb (Ring.bk 25 k.val)) f))) := by
  have hk2 : k.val + 2 < 25 := by omega
  have hc2 := (cond2_iff k).2 hk2
  have hc8 : ¬ k0_cond8 k (w10 k.val) = 1#1 := fun h => absurd ((cond8_iff k).1 h) (by omega)
  have hc3 := cond3_eq k
  have hc6 := cond6_eq k
  have h1 := chk1_all k
  have h2 := chk2_all k
  have h3 := chk3_all k
  iintro ⟨⟨Hx, Hw, Hb, ⟨%W, HW⟩⟩, Hg, ⟨⟨%f1, Hs⟩, Hc⟩, ⟨%f0, HF⟩, Ha, ⟨%f2, Ho⟩, Hoc⟩
  dsimp only [tripG]
  sl_unfold [k0_t1_body]
  sl_exec
  simp only [ite_self]
  sl_exec
  sl_step
  have hv : (oslot (Ring.sl 2 k.val)).view.read (Elt F) (tripFirst.sl.Ho_w1 c XA arg0 arg1 arg2 gx gw gb k h2 h3 f2) = outG c XA arg0 arg1 arg2 gx gw gb (Ring.bk 25 k.val) :=
    (read_stored (off13_eq k) _ _ _).trans (stored_eq c XA arg0 arg1 arg2 gx gw gb k h2)
  isplitr
  · ipureintro
    exact (by decide : ∀ k : Fin k0_t1_loop.trips,
      (tripFirst.sl.v100_r0 k, tripFirst.sl.v163_r0 k, tripFirst.sl.v145_r0 k, tripFirst.sl.v159_r0 k, tripFirst.sl.v79_r0 k) = ws (k.val + 1)) k
  isplitl [Hx Hw Hb HW]
  · isplitl [Hx]; · iexact Hx
    isplitl [Hw]; · iexact Hw
    isplitl [Hb]; · iexact Hb
    iexists _; iexact HW
  isplitl [Hc]; · iexists f1; iexact Hc
  isplitl [HF_src]; · iexact HF_src
  isplitl [HF_dst HF]
  · isplitl [HF_dst]; · iexists _; iexact HF_dst
    iexact HF
  iexists _
  iapply (flight_out c (Ring.sl 2 k.val) (Ring.bk 25 k.val) XR (tripFirst.sl.Ho_w1 c XA arg0 arg1 arg2 gx gw gb k h2 h3 f2) _ hv)
  iexact Hoc

/-- A trip in the middle: it starts the block two ahead, sends its own back and waits for the one sent back before. -/
theorem tripMid (k : Fin k0_t1_loop.trips) (hk1 : 1 ≤ k.val) (hk2 : k.val + 2 < 25) :
    iprop(keptP c arg0 arg1 arg2 gx gw gb
        ∗ homeP c XA (Ring.bk 25 (k.val + 2)) ∗ ifree c (Ring.sl 3 (k.val + 2))
        ∗ (∃ f, iflight c XA (Ring.sl 3 k.val) (Ring.bk 25 k.val) f)
        ∗ aheadP c XR (Ring.bk 25 k.val) ∗ ofree c (Ring.sl 2 k.val)
        ∗ (∃ f, oflight c (Ring.sl 2 (k.val + 1)) (Ring.bk 25 (k.val - 1)) (outG c XA arg0 arg1 arg2 gx gw gb (Ring.bk 25 (k.val - 1))) f))
      ⊢ wp frame (wpE (defs₀ (F := F)) 𝒱₀ (c : Thread nD τ) none) Set.univ (tripG arg0 harg0 arg1 harg1 arg2 harg2 v9 v26 v28 k)
        (fun acc => iprop(⌜acc = ws (k.val + 1)⌝ ∗ keptP c arg0 arg1 arg2 gx gw gb
          ∗ (∃ f, iflight c XA (Ring.sl 3 (k.val + 2)) (Ring.bk 25 (k.val + 2)) f)
          ∗ homeP c XA (Ring.bk 25 k.val) ∗ ifree c (Ring.sl 3 k.val)
          ∗ (∃ f, oflight c (Ring.sl 2 k.val) (Ring.bk 25 k.val) (outG c XA arg0 arg1 arg2 gx gw gb (Ring.bk 25 k.val)) f)
          ∗ doneP c (Ring.bk 25 (k.val - 1)) (outG c XA arg0 arg1 arg2 gx gw gb (Ring.bk 25 (k.val - 1))) ∗ ofree c (Ring.sl 2 (k.val + 1)))) := by
  have hc2 := (cond2_iff k).2 hk2
  have hc8 := (cond8_iff k).2 hk1
  have hc3 := cond3_eq k
  have hc6 := cond6_eq k
  have h1 := chk1_all k
  have h2 := chk2_all k
  have h3 := chk3_all k
  iintro ⟨⟨Hx, Hw, Hb, ⟨%W, HW⟩⟩, Hg, ⟨⟨%f1, Hs⟩, Hc⟩, ⟨%f0, HF⟩, Ha, ⟨⟨%f2, Ho⟩, Hoc⟩, ⟨%f3, HO⟩⟩
  dsimp only [tripG]
  sl_unfold [k0_t1_body]
  sl_exec
  simp only [ite_self]
  sl_exec
  sl_step
  have hv : (oslot (Ring.sl 2 k.val)).view.read (Elt F) (tripMid.sl.Ho_w1 c XA arg0 arg1 arg2 gx gw gb k h2 h3 f2) = outG c XA arg0 arg1 arg2 gx gw gb (Ring.bk 25 k.val) :=
    (read_stored (off13_eq k) _ _ _).trans (stored_eq c XA arg0 arg1 arg2 gx gw gb k h2)
  isplitr
  · ipureintro
    exact (by decide : ∀ k : Fin k0_t1_loop.trips,
      (tripMid.sl.v100_r0 k, tripMid.sl.v163_r0 k, tripMid.sl.v145_r0 k, tripMid.sl.v159_r0 k, tripMid.sl.v79_r0 k) = ws (k.val + 1)) k
  isplitl [Hx Hw Hb HW]
  · isplitl [Hx]; · iexact Hx
    isplitl [Hw]; · iexact Hw
    isplitl [Hb]; · iexact Hb
    iexists _; iexact HW
  isplitl [Hc]; · iexists f1; iexact Hc
  isplitl [HF_src]; · iexact HF_src
  isplitl [HF_dst HF]
  · isplitl [HF_dst]; · iexists _; iexact HF_dst
    iexact HF
  isplitl [Hoc]
  · iexists _
    iapply (flight_out c (Ring.sl 2 k.val) (Ring.bk 25 k.val) XR (tripMid.sl.Ho_w1 c XA arg0 arg1 arg2 gx gw gb k h2 h3 f2) _ hv)
    iexact Hoc
  isplitl [HO_dst]; · iexact HO_dst
  isplitl [HO_src]; · iexists _; iexact HO_src
  iexact HO

/-- The last two trips: nothing is left to start. -/
theorem tripTail (k : Fin k0_t1_loop.trips) (hk1 : 1 ≤ k.val) (hk2 : 25 ≤ k.val + 2) :
    iprop(keptP c arg0 arg1 arg2 gx gw gb
        ∗ (∃ f, iflight c XA (Ring.sl 3 k.val) (Ring.bk 25 k.val) f)
        ∗ aheadP c XR (Ring.bk 25 k.val) ∗ ofree c (Ring.sl 2 k.val)
        ∗ (∃ f, oflight c (Ring.sl 2 (k.val + 1)) (Ring.bk 25 (k.val - 1)) (outG c XA arg0 arg1 arg2 gx gw gb (Ring.bk 25 (k.val - 1))) f))
      ⊢ wp frame (wpE (defs₀ (F := F)) 𝒱₀ (c : Thread nD τ) none) Set.univ (tripG arg0 harg0 arg1 harg1 arg2 harg2 v9 v26 v28 k)
        (fun acc => iprop(⌜acc = ws (k.val + 1)⌝ ∗ keptP c arg0 arg1 arg2 gx gw gb
          ∗ homeP c XA (Ring.bk 25 k.val) ∗ ifree c (Ring.sl 3 k.val)
          ∗ (∃ f, oflight c (Ring.sl 2 k.val) (Ring.bk 25 k.val) (outG c XA arg0 arg1 arg2 gx gw gb (Ring.bk 25 k.val)) f)
          ∗ doneP c (Ring.bk 25 (k.val - 1)) (outG c XA arg0 arg1 arg2 gx gw gb (Ring.bk 25 (k.val - 1))) ∗ ofree c (Ring.sl 2 (k.val + 1)))) := by
  have hc2 : ¬ k0_cond2 k (w10 k.val) = 1#1 := fun h => absurd ((cond2_iff k).1 h) (by omega)
  have hc8 := (cond8_iff k).2 hk1
  have hc3 := cond3_eq k
  have hc6 := cond6_eq k
  have h1 := chk1_all k
  have h2 := chk2_all k
  have h3 := chk3_all k
  iintro ⟨⟨Hx, Hw, Hb, ⟨%W, HW⟩⟩, ⟨%f0, HF⟩, Ha, ⟨⟨%f2, Ho⟩, Hoc⟩, ⟨%f3, HO⟩⟩
  dsimp only [tripG]
  sl_unfold [k0_t1_body]
  sl_exec
  simp only [ite_self]
  sl_exec
  sl_step
  have hv : (oslot (Ring.sl 2 k.val)).view.read (Elt F) (tripTail.sl.Ho_w1 c XA arg0 arg1 arg2 gx gw gb k h2 h3 f2) = outG c XA arg0 arg1 arg2 gx gw gb (Ring.bk 25 k.val) :=
    (read_stored (off13_eq k) _ _ _).trans (stored_eq c XA arg0 arg1 arg2 gx gw gb k h2)
  isplitr
  · ipureintro
    exact (by decide : ∀ k : Fin k0_t1_loop.trips,
      (tripTail.sl.v100_r0 k, tripTail.sl.v163_r0 k, tripTail.sl.v145_r0 k, tripTail.sl.v159_r0 k, tripTail.sl.v79_r0 k) = ws (k.val + 1)) k
  isplitl [Hx Hw Hb HW]
  · isplitl [Hx]; · iexact Hx
    isplitl [Hw]; · iexact Hw
    isplitl [Hb]; · iexact Hb
    iexists _; iexact HW
  isplitl [HF_src]; · iexact HF_src
  isplitl [HF_dst HF]
  · isplitl [HF_dst]; · iexists _; iexact HF_dst
    iexact HF
  isplitl [Hoc]
  · iexists _
    iapply (flight_out c (Ring.sl 2 k.val) (Ring.bk 25 k.val) XR (tripTail.sl.Ho_w1 c XA arg0 arg1 arg2 gx gw gb k h2 h3 f2) _ hv)
    iexact Hoc
  isplitl [HO_dst]; · iexact HO_dst
  isplitl [HO_src]; · iexists _; iexact HO_src
  iexact HO

end Trip

end Cert.Proof.Gcn

end
-- ==== Proof.Loop.lean ====
/-
  The loop over the 25 blocks, and the kernel's body around it.
-/
module

public import proofs.«01_k».proof.Proof.Trip

@[expose] public section

set_option maxRecDepth 16384

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop
variable (c : Dev nD) (XA : Buf (Elt F) (adjM.view.loc (c : Thread nD τ))) (XR : Buf (Elt F) (outM.view.loc (c : Thread nD τ)))
  (arg0 : Memref sig .tc .vmem S10000x256 .f32) (harg0 : arg0.IsWhole)
  (arg1 : Memref sig .tc .vmem S256x256 .f32) (harg1 : arg1.IsWhole)
  (arg2 : Memref sig .tc .vmem S1x256 .f32) (harg2 : arg2.IsWhole)
  (gx : Buf (Elt F) (arg0.view.loc (c : Thread nD τ))) (gw : Buf (Elt F) (arg1.view.loc (c : Thread nD τ))) (gb : Buf (Elt F) (arg2.view.loc (c : Thread nD τ)))
  (v9 v26 : BitVec 32) (v28 : BitVec 1)

/-- Block `b` of the result, written. -/
abbrev doneG (b : Fin 25) : sProp 𝕄 := doneP c b (outG c XA arg0 arg1 arg2 gx gw gb b)
/-- A slot of the adjacency buffer in flight with block `b`, over whatever it held. -/
abbrev iflightE (s : Fin 3) (b : Fin 25) : sProp 𝕄 := iprop(∃ f, iflight c XA s b f)
/-- A slot of the result buffer on its way out to block `b`. -/
abbrev oflightE (s : Fin 2) (b : Fin 25) : sProp 𝕄 := iprop(∃ f, oflight c s b (outG c XA arg0 arg1 arg2 gx gw gb b) f)

/-- The resources before trip `k`: blocks `k` and `k + 1` of the matrix in flight in their slots while there are such
    blocks, the third slot free, the other blocks of the matrix home; the result's blocks from `k` on untouched, those
    before `k - 1` written, block `k - 1` on its way out if there is one, the other slot free. -/
def resAt (k : ℕ) : sProp 𝕄 :=
  iprop(xP c arg0 gx ∗ wP c arg1 gw ∗ bP c arg2 gb ∗ (∃ W, owes (c : Thread nD τ) 0 W)
    ∗ bigSep (Ring.homeSet 2 k) (homeP c XA)
    ∗ Ring.roleAt (ifree c (Ring.sl 3 k)) (iflightE c XA (Ring.sl 3 k)) k
    ∗ Ring.roleAt (ifree c (Ring.sl 3 (k + 1))) (iflightE c XA (Ring.sl 3 (k + 1))) (k + 1)
    ∗ ifree c (Ring.sl 3 (k + 2))
    ∗ bigSep (Ring.aheadSet k) (aheadP c XR)
    ∗ bigSep (Ring.behindSet 1 k) (doneG c XA arg0 arg1 arg2 gx gw gb)
    ∗ ofree c (Ring.sl 2 k)
    ∗ Ring.roleBAt 1 (ofree c (Ring.sl 2 (k + 1))) (oflightE c XA arg0 arg1 arg2 gx gw gb (Ring.sl 2 (k + 1))) k)
/-- The loop's invariant: the carried words are the stated ones, the resources the trip's. -/
def invAt (k : ℕ) (acc : BitVec 32 × BitVec 32 × BitVec 32 × BitVec 32 × BitVec 32) : sProp 𝕄 :=
  iprop(⌜acc = ws k⌝ ∗ resAt c XA XR arg0 arg1 arg2 gx gw gb k)

omit [FloatOps F] in
theorem ahead_here (k : ℕ) (hk : k < 25) :
    bigSep (Ring.aheadSet k) (aheadP c XR) = iprop(aheadP c XR (Ring.bk 25 k) ∗ bigSep (Ring.aheadSet (k + 1)) (aheadP c XR)) := by
  rw [Ring.aheadSet_open k hk, bigSep_insert (Ring.bk_not_mem_aheadSet_succ k hk)]; rfl
theorem behind_next (k : ℕ) (h1 : 1 ≤ k) (hk : k < 25) :
    bigSep (Ring.behindSet 1 (k + 1)) (doneG c XA arg0 arg1 arg2 gx gw gb)
      = iprop(doneG c XA arg0 arg1 arg2 gx gw gb (Ring.bk 25 (k - 1)) ∗ bigSep (Ring.behindSet 1 k) (doneG c XA arg0 arg1 arg2 gx gw gb)) := by
  rw [Ring.behindSet_close 1 k h1 hk, bigSep_insert (Ring.bk_not_mem_behindSet 1 k h1 hk)]; rfl
omit [FloatOps F] in
theorem home_here (k : ℕ) (hk : k + 2 < 25) :
    bigSep (Ring.homeSet 2 k) (homeP c XA) = iprop(homeP c XA (Ring.bk 25 (k + 2)) ∗ bigSep ((Ring.homeSet 2 k).erase (Ring.bk 25 (k + 2))) (homeP c XA)) := by
  conv_lhs => rw [Ring.homeSet_out 2 k hk, bigSep_insert (Ring.bkL_not_mem_erase 2 k)]
  rfl
omit [FloatOps F] in
theorem home_next (k : ℕ) (hk : k + 2 < 25) :
    bigSep (Ring.homeSet 2 (k + 1)) (homeP c XA) = iprop(homeP c XA (Ring.bk 25 k) ∗ bigSep ((Ring.homeSet 2 k).erase (Ring.bk 25 (k + 2))) (homeP c XA)) := by
  rw [Ring.homeSet_succ 2 k hk, bigSep_insert (Ring.bk_not_mem_erase 2 k (by omega) (by decide))]; rfl
omit [FloatOps F] in
theorem home_tail (k : ℕ) (hk : 25 ≤ k + 2) (h : k < 25) :
    bigSep (Ring.homeSet 2 (k + 1)) (homeP c XA) = iprop(homeP c XA (Ring.bk 25 k) ∗ bigSep (Ring.homeSet 2 k) (homeP c XA)) := by
  rw [Ring.homeSet_succ_tail 2 k hk h, bigSep_insert (Ring.bk_not_mem_homeSet 2 k h (by decide))]; rfl

abbrev tripWp (k : Fin k0_t1_loop.trips) : sProp 𝕄 :=
  wp Idealize.ShloMosaic.frame (wpE (defs₀ (F := F)) 𝒱₀ (c : Thread nD τ) none) Set.univ (tripG arg0 harg0 arg1 harg1 arg2 harg2 v9 v26 v28 k)
    (fun acc => invAt c XA XR arg0 arg1 arg2 gx gw gb (k.val + 1) acc)

/-- The first trip keeps the invariant, -/
theorem stepFirst (k : Fin k0_t1_loop.trips) (hk : k.val = 0) :
    resAt c XA XR arg0 arg1 arg2 gx gw gb k.val ⊢ tripWp c XA XR arg0 harg0 arg1 harg1 arg2 harg2 gx gw gb v9 v26 v28 k := by
  have hlt := trip_lt k
  have e3 : Ring.sl 3 (k.val + 1 + 2) = Ring.sl 3 k.val := Ring.sl_succ_add 3 k.val 2 rfl
  have e2 : Ring.sl 2 (k.val + 1 + 1) = Ring.sl 2 k.val := Ring.sl_succ_add 2 k.val 1 rfl
  have eb : Ring.behindSet (NB := 25) 1 (k.val + 1) = Ring.behindSet 1 k.val := by
    rw [Ring.behindSet_boot 1 k.val (by omega), Ring.behindSet_boot 1 (k.val + 1) (by omega)]
  unfold tripWp invAt resAt
  rw [home_here c XA k.val (by omega), home_next c XA k.val (by omega), ahead_here c XR k.val hlt,
    Ring.roleAt_of_lt _ _ k.val (by omega), Ring.roleAt_of_lt _ _ (k.val + 1) (by omega), Ring.roleAt_of_lt _ _ (k.val + 1 + 1) (by omega),
    Ring.roleBAt_of_lt 1 _ _ k.val (by omega), Ring.roleBAt_of_le 1 _ _ (k.val + 1) (by omega), e3, e2, eb, Nat.add_sub_cancel]
  iintro ⟨Hx, Hw, Hb, HW, ⟨Hg, Hh⟩, HF0, HF1, Hf, ⟨Ha, Hah⟩, Hbe, Ho, Ho1⟩
  iapply (wp_wand_r Idealize.ShloMosaic.frame (wpE (defs₀ (F := F)) 𝒱₀ (c : Thread nD τ) none) Set.univ)
  isplitl [Hx Hw Hb HW Hg HF0 Hf Ha Ho]
  · iapply (tripFirst c XA XR arg0 harg0 arg1 harg1 arg2 harg2 gx gw gb v9 v26 v28 k hk)
    isplitl [Hx Hw Hb HW]
    · isplitl [Hx]; · iexact Hx
      isplitl [Hw]; · iexact Hw
      isplitl [Hb]; · iexact Hb
      iexact HW
    isplitl [Hg]; · iexact Hg
    isplitl [Hf]; · iexact Hf
    isplitl [HF0]; · iexact HF0
    isplitl [Ha]; · iexact Ha
    iexact Ho
  · iintro %acc ⟨%e, ⟨Hx, Hw, Hb, HW⟩, HF2, Hg, Hf, HO⟩
    isplitr; · ipureintro; exact e
    isplitl [Hx]; · iexact Hx
    isplitl [Hw]; · iexact Hw
    isplitl [Hb]; · iexact Hb
    isplitl [HW]; · iexact HW
    isplitl [Hg Hh]; · isplitl [Hg]; · iexact Hg
                       iexact Hh
    isplitl [HF1]; · iexact HF1
    isplitl [HF2]; · iexact HF2
    isplitl [Hf]; · iexact Hf
    isplitl [Hah]; · iexact Hah
    isplitl [Hbe]; · iexact Hbe
    isplitl [Ho1]; · iexact Ho1
    iexact HO

/-- a trip in the middle does, -/
theorem stepMid (k : Fin k0_t1_loop.trips) (hk1 : 1 ≤ k.val) (hk2 : k.val + 2 < 25) :
    resAt c XA XR arg0 arg1 arg2 gx gw gb k.val ⊢ tripWp c XA XR arg0 harg0 arg1 harg1 arg2 harg2 gx gw gb v9 v26 v28 k := by
  have hlt := trip_lt k
  have e3 : Ring.sl 3 (k.val + 1 + 2) = Ring.sl 3 k.val := Ring.sl_succ_add 3 k.val 2 rfl
  have e2 : Ring.sl 2 (k.val + 1 + 1) = Ring.sl 2 k.val := Ring.sl_succ_add 2 k.val 1 rfl
  unfold tripWp invAt resAt
  rw [home_here c XA k.val (by omega), home_next c XA k.val (by omega), ahead_here c XR k.val hlt, behind_next c XA arg0 arg1 arg2 gx gw gb k.val hk1 hlt,
    Ring.roleAt_of_lt _ _ k.val (by omega), Ring.roleAt_of_lt _ _ (k.val + 1) (by omega), Ring.roleAt_of_lt _ _ (k.val + 1 + 1) (by omega),
    Ring.roleBAt_of_le 1 _ _ k.val (by omega), Ring.roleBAt_of_le 1 _ _ (k.val + 1) (by omega), e3, e2, Nat.add_sub_cancel]
  iintro ⟨Hx, Hw, Hb, HW, ⟨Hg, Hh⟩, HF0, HF1, Hf, ⟨Ha, Hah⟩, Hbe, Ho, HO1⟩
  iapply (wp_wand_r Idealize.ShloMosaic.frame (wpE (defs₀ (F := F)) 𝒱₀ (c : Thread nD τ) none) Set.univ)
  isplitl [Hx Hw Hb HW Hg HF0 Hf Ha Ho HO1]
  · iapply (tripMid c XA XR arg0 harg0 arg1 harg1 arg2 harg2 gx gw gb v9 v26 v28 k hk1 hk2)
    isplitl [Hx Hw Hb HW]
    · isplitl [Hx]; · iexact Hx
      isplitl [Hw]; · iexact Hw
      isplitl [Hb]; · iexact Hb
      iexact HW
    isplitl [Hg]; · iexact Hg
    isplitl [Hf]; · iexact Hf
    isplitl [HF0]; · iexact HF0
    isplitl [Ha]; · iexact Ha
    isplitl [Ho]; · iexact Ho
    iexact HO1
  · iintro %acc ⟨%e, ⟨Hx, Hw, Hb, HW⟩, HF2, Hg, Hf, HO, Hd, Ho1⟩
    isplitr; · ipureintro; exact e
    isplitl [Hx]; · iexact Hx
    isplitl [Hw]; · iexact Hw
    isplitl [Hb]; · iexact Hb
    isplitl [HW]; · iexact HW
    isplitl [Hg Hh]; · isplitl [Hg]; · iexact Hg
                       iexact Hh
    isplitl [HF1]; · iexact HF1
    isplitl [HF2]; · iexact HF2
    isplitl [Hf]; · iexact Hf
    isplitl [Hah]; · iexact Hah
    isplitl [Hd Hbe]; · isplitl [Hd]; · iexact Hd
                        iexact Hbe
    isplitl [Ho1]; · iexact Ho1
    iexact HO

/-- and so do the last two. -/
theorem stepTail (k : Fin k0_t1_loop.trips) (hk1 : 1 ≤ k.val) (hk2 : 25 ≤ k.val + 2) :
    resAt c XA XR arg0 arg1 arg2 gx gw gb k.val ⊢ tripWp c XA XR arg0 harg0 arg1 harg1 arg2 harg2 gx gw gb v9 v26 v28 k := by
  have hlt := trip_lt k
  have e3 : Ring.sl 3 (k.val + 1 + 2) = Ring.sl 3 k.val := Ring.sl_succ_add 3 k.val 2 rfl
  have e2 : Ring.sl 2 (k.val + 1 + 1) = Ring.sl 2 k.val := Ring.sl_succ_add 2 k.val 1 rfl
  unfold tripWp invAt resAt
  rw [home_tail c XA k.val hk2 hlt, ahead_here c XR k.val hlt, behind_next c XA arg0 arg1 arg2 gx gw gb k.val hk1 hlt,
    Ring.roleAt_of_lt _ _ k.val hlt, Ring.roleAt_of_le _ _ (k.val + 1 + 1) (by omega),
    Ring.roleBAt_of_le 1 _ _ k.val (by omega), Ring.roleBAt_of_le 1 _ _ (k.val + 1) (by omega), e3, e2, Nat.add_sub_cancel]
  iintro ⟨Hx, Hw, Hb, HW, Hh, HF0, HF1, Hf, ⟨Ha, Hah⟩, Hbe, Ho, HO1⟩
  iapply (wp_wand_r Idealize.ShloMosaic.frame (wpE (defs₀ (F := F)) 𝒱₀ (c : Thread nD τ) none) Set.univ)
  isplitl [Hx Hw Hb HW HF0 Ha Ho HO1]
  · iapply (tripTail c XA XR arg0 harg0 arg1 harg1 arg2 harg2 gx gw gb v9 v26 v28 k hk1 hk2)
    isplitl [Hx Hw Hb HW]
    · isplitl [Hx]; · iexact Hx
      isplitl [Hw]; · iexact Hw
      isplitl [Hb]; · iexact Hb
      iexact HW
    isplitl [HF0]; · iexact HF0
    isplitl [Ha]; · iexact Ha
    isplitl [Ho]; · iexact Ho
    iexact HO1
  · iintro %acc ⟨%e, ⟨Hx, Hw, Hb, HW⟩, Hg, Hf0, HO, Hd, Ho1⟩
    isplitr; · ipureintro; exact e
    isplitl [Hx]; · iexact Hx
    isplitl [Hw]; · iexact Hw
    isplitl [Hb]; · iexact Hb
    isplitl [HW]; · iexact HW
    isplitl [Hg Hh]; · isplitl [Hg]; · iexact Hg
                       iexact Hh
    isplitl [HF1]; · iexact HF1
    isplitl [Hf]; · iexact Hf
    isplitl [Hf0]; · iexact Hf0
    isplitl [Hah]; · iexact Hah
    isplitl [Hd Hbe]; · isplitl [Hd]; · iexact Hd
                        iexact Hbe
    isplitl [Ho1]; · iexact Ho1
    iexact HO

/-- Every trip keeps the invariant. -/
theorem loopStep (k : Fin k0_t1_loop.trips) (acc : BitVec 32 × BitVec 32 × BitVec 32 × BitVec 32 × BitVec 32) :
    invAt c XA XR arg0 arg1 arg2 gx gw gb k.val acc
      ⊢ wp Idealize.ShloMosaic.frame (wpE (defs₀ (F := F)) 𝒱₀ (c : Thread nD τ) none) Set.univ
          (k0_t1_body (F := F) arg0 harg0 arg1 harg1 arg2 harg2 adjM (Memref.isWhole_whole _) outM (Memref.isWhole_whole _) inBuf (Memref.isWhole_whole _) cc0_scoped1 outBuf (Memref.isWhole_whole _) cc0_scoped3 v9 v26 v28 k acc)
          (fun acc => invAt c XA XR arg0 arg1 arg2 gx gw gb (k.val + 1) acc) := by
  conv_lhs => unfold invAt
  iintro ⟨%e, H⟩
  subst e
  by_cases h1 : k.val = 0
  · iapply (stepFirst c XA XR arg0 harg0 arg1 harg1 arg2 harg2 gx gw gb v9 v26 v28 k h1); iexact H
  by_cases h2 : k.val + 2 < 25
  · iapply (stepMid c XA XR arg0 harg0 arg1 harg1 arg2 harg2 gx gw gb v9 v26 v28 k (by omega) h2); iexact H
  · iapply (stepTail c XA XR arg0 harg0 arg1 harg1 arg2 harg2 gx gw gb v9 v26 v28 k (by omega) (by omega)); iexact H

end Loop

end Cert.Proof.Gcn

end
-- ==== Proof.Body.lean ====
/-
  The whole body: the first two copies, the loop, the last wait.
-/
module

public import proofs.«01_k».proof.Proof.Loop

@[expose] public section

set_option maxRecDepth 16384

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (XA : Buf (Elt F) (adjM.view.loc (c : Thread nD τ))) (XR : Buf (Elt F) (outM.view.loc (c : Thread nD τ)))
  (arg0 : Memref sig .tc .vmem S10000x256 .f32) (harg0 : arg0.IsWhole)
  (arg1 : Memref sig .tc .vmem S256x256 .f32) (harg1 : arg1.IsWhole)
  (arg2 : Memref sig .tc .vmem S1x256 .f32) (harg2 : arg2.IsWhole)
  (gx : Buf (Elt F) (arg0.view.loc (c : Thread nD τ))) (gw : Buf (Elt F) (arg1.view.loc (c : Thread nD τ))) (gb : Buf (Elt F) (arg2.view.loc (c : Thread nD τ)))

/-- The body on three staging buffers. -/
abbrev bodyG :=
  cc0__fused_kernel (F := F) arg0 harg0 arg1 harg1 arg2 harg2 adjM (Memref.isWhole_whole _) outM (Memref.isWhole_whole _) inBuf (Memref.isWhole_whole _) cc0_scoped1 outBuf (Memref.isWhole_whole _) cc0_scoped3

/-- What the body is handed: the staging buffers, the matrix's blocks (the first two apart), the result's blocks
    untouched, the slots at anything, the semaphores at zero. -/
abbrev PRE (W : Waits sig Unit) : sProp 𝕄 :=
  iprop(xP c arg0 gx ∗ wP c arg1 gw ∗ bP c arg2 gb ∗ owes (c : Thread nD τ) 0 W
    ∗ homeP c XA 0 ∗ homeP c XA 1 ∗ bigSep (Ring.homeSet 2 0) (homeP c XA)
    ∗ bigSep (Ring.aheadSet 0) (aheadP c XR) ∗ bigSep (Ring.behindSet 1 0) (doneG c XA arg0 arg1 arg2 gx gw gb)
    ∗ ifree c 0 ∗ ifree c 1 ∗ ifree c 2 ∗ ofree c 0 ∗ ofree c 1)
/-- What it hands back: the staging buffers and the matrix's blocks as they were, the result's blocks written, the
    slots at anything, the semaphores at zero. -/
abbrev POST : sProp 𝕄 :=
  iprop(xP c arg0 gx ∗ wP c arg1 gw ∗ bP c arg2 gb ∗ (∃ W, owes (c : Thread nD τ) 0 W)
    ∗ bigSep Finset.univ (homeP c XA)
    ∗ bigSep Finset.univ (doneG c XA arg0 arg1 arg2 gx gw gb)
    ∗ ifree c 0 ∗ ifree c 1 ∗ ifree c 2 ∗ ofree c 0 ∗ ofree c 1)

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem sl2_0 : Ring.sl 2 0 = 0 := Fin.ext (by rfl)
theorem sl2_1 : Ring.sl 2 (0 + 1) = 1 := Fin.ext (by rfl)
theorem bk25_0 : Ring.bk 25 0 = 0 := Fin.ext (by rfl)
theorem bk25_1 : Ring.bk 25 (0 + 1) = 1 := Fin.ext (by rfl)
/-- The second block is started too. -/
theorem cond1_eq : k0_cond1 = 1#1 := by decide

/-- The invariant before the first trip, from what the first two copies leave. -/
theorem inv_start (f0 f1 W) :
    iprop(xP c arg0 gx ∗ wP c arg1 gw ∗ bP c arg2 gb ∗ owes (c : Thread nD τ) 0 W
      ∗ bigSep (Ring.homeSet 2 0) (homeP c XA)
      ∗ bigSep (Ring.aheadSet 0) (aheadP c XR) ∗ bigSep (Ring.behindSet 1 0) (doneG c XA arg0 arg1 arg2 gx gw gb)
      ∗ iflight c XA 0 0 f0 ∗ iflight c XA 1 1 f1 ∗ ifree c 2 ∗ ofree c 0 ∗ ofree c 1)
      ⊢ invAt c XA XR arg0 arg1 arg2 gx gw gb 0 (2#32, 0#32, 0#32, 0#32, 0#32) := by
  unfold invAt resAt
  rw [Ring.roleAt_of_lt _ _ 0 (by omega), Ring.roleAt_of_lt _ _ (0 + 1) (by omega), Ring.roleBAt_of_lt 1 _ _ 0 (by omega),
    sl3_0, sl3_1, sl3_2, sl2_0, sl2_1, bk25_0, bk25_1]
  iintro ⟨Hx, Hw, Hb, HW, Hh, Hah, Hbe, HF0, HF1, Hf2, Ho0, Ho1⟩
  isplitr; · ipureintro; rfl
  isplitl [Hx]; · iexact Hx
  isplitl [Hw]; · iexact Hw
  isplitl [Hb]; · iexact Hb
  isplitl [HW]; · iexists W; iexact HW
  isplitl [Hh]; · iexact Hh
  isplitl [HF0]; · iexists f0; iexact HF0
  isplitl [HF1]; · iexists f1; iexact HF1
  isplitl [Hf2]; · iexact Hf2
  isplitl [Hah]; · iexact Hah
  isplitl [Hbe]; · iexact Hbe
  isplitl [Ho0]; · iexact Ho0
  iexact Ho1

/-- What the loop leaves: every block of the matrix home and its slots free, every block of the result but the last
    written, the last on its way out. -/
theorem inv_end (acc) :
    invAt c XA XR arg0 arg1 arg2 gx gw gb k0_t1_loop.trips acc
      ⊢ iprop(⌜acc = ws 25⌝ ∗ xP c arg0 gx ∗ wP c arg1 gw ∗ bP c arg2 gb ∗ (∃ W, owes (c : Thread nD τ) 0 W)
          ∗ bigSep Finset.univ (homeP c XA) ∗ (ifree c 0 ∗ ifree c 1 ∗ ifree c 2)
          ∗ bigSep (Ring.behindSet 1 25) (doneG c XA arg0 arg1 arg2 gx gw gb) ∗ ofree c (Ring.sl 2 25)
          ∗ ∃ f, oflight c (Ring.sl 2 (25 + 1)) (Ring.bk 25 (25 - 1)) (outG c XA arg0 arg1 arg2 gx gw gb (Ring.bk 25 (25 - 1))) f) := by
  rw [trips_eq]
  unfold invAt resAt
  rw [Ring.roleAt_of_le _ _ 25 (by omega), Ring.roleAt_of_le _ _ (25 + 1) (by omega), Ring.roleBAt_of_le 1 _ _ 25 (by omega),
    Ring.homeSet_last 2 25 (by omega)]
  iintro ⟨%e, Hx, Hw, Hb, HW, Hh, Hf0, Hf1, Hf2, -, Hbe, Ho, HO⟩
  isplitr; · ipureintro; exact e
  isplitl [Hx]; · iexact Hx
  isplitl [Hw]; · iexact Hw
  isplitl [Hb]; · iexact Hb
  isplitl [HW]; · iexact HW
  isplitl [Hh]; · iexact Hh
  isplitl [Hf0 Hf1 Hf2]
  · iapply (Ring.free3_of_roles (ifree c) 25)
    isplitl [Hf0]; · iexact Hf0
    isplitl [Hf1]; · iexact Hf1
    iexact Hf2
  isplitl [Hbe]; · iexact Hbe
  isplitl [Ho]; · iexact Ho
  iexact HO

/-- The last block written too, all are. -/
theorem done_all :
    iprop(doneG c XA arg0 arg1 arg2 gx gw gb (Ring.bk 25 (25 - 1)) ∗ bigSep (Ring.behindSet 1 25) (doneG c XA arg0 arg1 arg2 gx gw gb))
      ⊢ bigSep Finset.univ (doneG c XA arg0 arg1 arg2 gx gw gb) := by
  have e : (Finset.univ : Finset (Fin 25)) = insert (Ring.bk 25 (25 - 1)) (Ring.behindSet 1 25) := by decide
  have h : Ring.bk 25 (25 - 1) ∉ Ring.behindSet (NB := 25) 1 25 := by decide
  rw [e, bigSep_insert h]; exact .rfl

theorem sl2_25 : Ring.sl 2 25 = 1 := Fin.ext (by rfl)
theorem sl2_26 : Ring.sl 2 (25 + 1) = 0 := Fin.ext (by rfl)

/-- The whole body: the first two copies start, the loop runs, the last block of the result is waited for. -/
theorem bodyRun (W) (Q : PUnit → sProp 𝕄) :
    iprop(PRE c XA XR arg0 arg1 arg2 gx gw gb W ∗ (POST c XA arg0 arg1 arg2 gx gw gb -∗ Q ⟨⟩))
      ⊢ wp Idealize.ShloMosaic.frame (wpE (defs₀ (F := F)) 𝒱₀ (c : Thread nD τ) none) Set.univ (bodyG arg0 harg0 arg1 harg1 arg2 harg2) Q := by
  iintro ⟨⟨Hx, Hw, Hb, HW, Hg0, Hg1, Hh, Hah, Hbe, ⟨⟨%f0, Hi0⟩, Hc0⟩, ⟨⟨%f1, Hi1⟩, Hc1⟩, Hf2, Ho0, Ho1⟩, Hk⟩
  have hcd := cond1_eq
  sl_exec
  sl_for (invAt c XA XR arg0 arg1 arg2 gx gw gb) $$ [Hx Hw Hb HW Hh Hah Hbe Hc0 Hc1 Hf2 Ho0 Ho1]
  · intro k acc
    exact loopStep c XA XR arg0 harg0 arg1 harg1 arg2 harg2 gx gw gb _ _ _ k acc
  · iapply (inv_start c XA XR arg0 arg1 arg2 gx gw gb f0 f1 W)
    isplitl [Hx]; · iexact Hx
    isplitl [Hw]; · iexact Hw
    isplitl [Hb]; · iexact Hb
    isplitl [HW]; · iexact HW
    isplitl [Hh]; · iexact Hh
    isplitl [Hah]; · iexact Hah
    isplitl [Hbe]; · iexact Hbe
    isplitl [Hc0]; · iexact Hc0
    isplitl [Hc1]; · iexact Hc1
    isplitl [Hf2]; · iexact Hf2
    isplitl [Ho0]; · iexact Ho0
    iexact Ho1
  iintro %acc HI
  ihave HE := (inv_end c XA XR arg0 arg1 arg2 gx gw gb acc) $$ HI
  icases HE with ⟨%e, Hx, Hw, Hb, ⟨%W', HW⟩, Hh, Hfree, Hbe, Ho1, ⟨%f, HO⟩⟩
  subst e
  have h4 := chk4_end
  have h5 := chk5_end
  sl_exec
  sl_step
  ihave Ho0 := (show (iprop(oslotP c (Ring.sl 2 (25 + 1)) f ∗ ocell c (Ring.sl 2 (25 + 1))) : sProp 𝕄) ⊢ ofree c 0 from by
    rw [← sl2_26]; iintro ⟨H, Hc⟩; isplitl [H]
    · iexists f; iexact H
    iexact Hc) $$ [HO_src HO]
  · isplitl [HO_src]; · iexact HO_src
    iexact HO
  ihave Ho1' := (show (ofree c (Ring.sl 2 25) : sProp 𝕄) ⊢ ofree c 1 from by rw [sl2_25]) $$ Ho1
  icases Hfree with ⟨Hf0, Hf1, Hf2⟩
  iapply Hk
  isplitl [Hx]; · iexact Hx
  isplitl [Hw]; · iexact Hw
  isplitl [Hb]; · iexact Hb
  isplitl [HW]; · iexists _; iexact HW
  isplitl [Hh]; · iexact Hh
  isplitl [HO_dst Hbe]
  · iapply (done_all c XA arg0 arg1 arg2 gx gw gb)
    isplitl [HO_dst]; · iexact HO_dst
    iexact Hbe
  isplitl [Hf0]; · iexact Hf0
  isplitl [Hf1]; · iexact Hf1
  isplitl [Hf2]; · iexact Hf2
  isplitl [Ho0]; · iexact Ho0
  iexact Ho1'

end Body

end Cert.Proof.Gcn

end
-- ==== Proof.Launch.lean ====
/-
  The arrays and buffers held whole, split into blocks and slots and joined again; the region and the run of @main.
-/
module

public import proofs.«01_k».proof.Proof.Body
public import proofs.«01_k».proof.Proof.Gen.KernelIdeal.Frame

@[expose] public section

set_option maxRecDepth 16384

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Element sets -/

/-- The elements of block `b` of the matrix, -/
abbrev setA (b : Fin 25) : Finset S10000x10000.Idx := (Rect.unit (s := S10000x10000) (adjOff b) S400x10000.size (adjOff_inb b)).set
/-- of block `b` of the result, -/
abbrev setR (b : Fin 25) : Finset S10000x256.Idx := (Rect.unit (s := S10000x256) (resOff b) S400x256.size (resOff_inb b)).set
/-- of slot `s` of the matrix's buffer, -/
abbrev setI (s : Fin 3) : Finset S3x400x10000.Idx := (Rect.unit (s := S3x400x10000) (inOff s) S1x400x10000.size (inOff_inb s)).set
/-- of slot `s` of the result's buffer. -/
abbrev setO (s : Fin 2) : Finset S2x400x256.Idx := (Rect.unit (s := S2x400x256) (outOff s) S1x400x256.size (outOff_inb s)).set

theorem ablk_set (b : Fin 25) : (ablk b).view.set = setA b := View.set_slice_whole _ _
theorem rblk_set (b : Fin 25) : (rblk b).view.set = setR b := View.set_slice_whole _ _
theorem islot_set (s : Fin 3) : (islot s).view.set = setI s := (View.set_reshape _ _).trans (View.set_slice_whole _ _)
theorem oslot_set (s : Fin 2) : (oslot s).view.set = setO s := (View.set_reshape _ _).trans (View.set_slice_whole _ _)

theorem off2 (n : ℕ) (a : Fin 2) (h : a ≠ 0) : (![n, 0] : Fin 2 → ℕ) a = 0 := by
  fin_cases a
  · exact absurd rfl h
  · rfl
theorem off3 (n : ℕ) (a : Fin 3) (h : a ≠ 0) : (![n, 0, 0] : Fin 3 → ℕ) a = 0 := by
  fin_cases a
  · exact absurd rfl h
  · rfl
  · rfl
theorem setA_disjoint (b b' : Fin 25) (h : b ≠ b') : Disjoint (setA b) (setA b') :=
  Ring.lead_disjoint (s := S10000x10000) 0 400 adjOff S400x10000.size adjOff_inb (fun _ => rfl) rfl b b' h
theorem setA_cover : (Finset.univ : Finset (Fin 25)).biUnion setA = Finset.univ :=
  Ring.lead_cover (s := S10000x10000) 0 400 adjOff S400x10000.size adjOff_inb (fun _ => rfl) (fun b a h => off2 _ a h) rfl (by decide) rfl
theorem setR_disjoint (b b' : Fin 25) (h : b ≠ b') : Disjoint (setR b) (setR b') :=
  Ring.lead_disjoint (s := S10000x256) 0 400 resOff S400x256.size resOff_inb (fun _ => rfl) rfl b b' h
theorem setR_cover : (Finset.univ : Finset (Fin 25)).biUnion setR = Finset.univ :=
  Ring.lead_cover (s := S10000x256) 0 400 resOff S400x256.size resOff_inb (fun _ => rfl) (fun b a h => off2 _ a h) rfl (by decide) rfl
theorem setI_disjoint (s s' : Fin 3) (h : s ≠ s') : Disjoint (setI s) (setI s') :=
  Ring.lead_disjoint (s := S3x400x10000) 0 1 inOff S1x400x10000.size inOff_inb (fun b => (Nat.one_mul b.val).symm) rfl s s' h
theorem setI_cover : (Finset.univ : Finset (Fin 3)).biUnion setI = Finset.univ :=
  Ring.lead_cover (s := S3x400x10000) 0 1 inOff S1x400x10000.size inOff_inb (fun b => (Nat.one_mul b.val).symm) (fun b a h => off3 _ a h) rfl (by decide) rfl
theorem setO_disjoint (s s' : Fin 2) (h : s ≠ s') : Disjoint (setO s) (setO s') :=
  Ring.lead_disjoint (s := S2x400x256) 0 1 outOff S1x400x256.size outOff_inb (fun b => (Nat.one_mul b.val).symm) rfl s s' h
theorem setO_cover : (Finset.univ : Finset (Fin 2)).biUnion setO = Finset.univ :=
  Ring.lead_cover (s := S2x400x256) 0 1 outOff S1x400x256.size outOff_inb (fun b => (Nat.one_mul b.val).symm) (fun b a h => off3 _ a h) rfl (by decide) rfl

/-- Equal resources give one another. -/
theorem same_res {P Q : sProp 𝕄} (e : P = Q) : P ⊢ Q := by rw [e]

/-! ## Whole buffers as their blocks or slots -/

section Split
variable (c : Dev nD)

omit [FloatOps F] in
/-- The matrix whole is its blocks home; -/
theorem adj_eq (XA : Buf (Elt F) ((c : Thread nD τ).loc main_arg1)) :
    (((c : Thread nD τ).loc main_arg1) ↦{fullShare} XA : sProp 𝕄) = bigSep Finset.univ (homeP c XA) := by
  rw [Ring.pointsTo_blocks (ℓ := (c : Thread nD τ).loc main_arg1) setA setA_disjoint setA_cover]
  exact bigSep_congr fun b _ => by rw [← ablk_set]; rfl
omit [FloatOps F] in
/-- the result whole, not yet written, is its blocks ahead. -/
theorem res_eq (XR : Buf (Elt F) ((c : Thread nD τ).loc main_v1)) :
    (((c : Thread nD τ).loc main_v1) ↦{fullShare} XR : sProp 𝕄) = bigSep Finset.univ (aheadP c XR) := by
  rw [Ring.pointsTo_blocks (ℓ := (c : Thread nD τ).loc main_v1) setR setR_disjoint setR_cover]
  exact bigSep_congr fun b _ => by rw [← rblk_set]; rfl

/-- The block a row of the result lies in. -/
def rowBlk (y : S10000x256.Idx) : Fin 25 := ⟨(y 0).val / 400, by have h : (y 0).val < 10000 := (y 0).isLt; omega⟩
/-- The place of an element of the result in its block. -/
def rowIn (y : S10000x256.Idx) : S400x256.Idx := fun
  | ⟨0, _⟩ => ⟨(y 0).val % 400, Nat.mod_lt _ (by decide)⟩
  | ⟨1, _⟩ => ⟨(y 1).val, (y 1).isLt⟩
/-- The result from its 25 blocks. -/
def joinRows {α : Type} (v : Fin 25 → S400x256.Idx → α) : S10000x256.Idx → α := fun y => v (rowBlk y) (rowIn y)

/-- Element `z` of block `b` of the result, in the result. -/
abbrev inRes (b : Fin 25) (z : S400x256.Idx) : S10000x256.Idx := (rblk b).view.emb z
theorem inRes_val (b : Fin 25) (z : S400x256.Idx) (a : Fin 2) : (inRes b z a).val = resOff b a + (z a).val := by
  show ((Rect.unit (s := S10000x256) (resOff b) S400x256.size (resOff_inb b)).emb z a).val = _
  rw [Rect.emb_apply]; show resOff b a + 1 * (z a).val = _; omega
theorem rowBlk_inRes (b : Fin 25) (z : S400x256.Idx) : rowBlk (inRes b z) = b := by
  have hz : (z 0).val < 400 := (z 0).isLt
  have h : (inRes b z 0).val = 400 * b.val + (z 0).val := inRes_val b z 0
  apply Fin.ext; show (inRes b z 0).val / 400 = b.val
  rw [h]; omega
theorem rowIn_inRes (b : Fin 25) (z : S400x256.Idx) : rowIn (inRes b z) = z := by
  have hz : (z 0).val < 400 := (z 0).isLt
  have h : (inRes b z 0).val = 400 * b.val + (z 0).val := inRes_val b z 0
  have h1 : (inRes b z 1).val = 0 + (z 1).val := inRes_val b z 1
  funext a
  fin_cases a
  · apply Fin.ext; show (inRes b z 0).val % 400 = (z 0).val
    rw [h]; omega
  · apply Fin.ext; show (inRes b z 1).val = (z 1).val
    rw [h1]; omega

/-- The result's blocks written are the result whole at the blocks joined. -/
theorem done_eq (v : Fin 25 → S400x256.Idx → Elt F .f32) :
    bigSep Finset.univ (fun b => doneP c b (v b)) = (((c : Thread nD τ).loc main_v1) ↦{fullShare} (joinRows v : Buf (Elt F) ((c : Thread nD τ).loc main_v1)) : sProp 𝕄) := by
  rw [Ring.pointsTo_blocks (ℓ := (c : Thread nD τ).loc main_v1) setR setR_disjoint setR_cover]
  refine bigSep_congr fun b _ => ?_
  rw [← rblk_set]
  refine pointsTo_congr fun i hi => ?_
  obtain ⟨z, -, rfl⟩ := Finset.mem_map.mp hi
  rw [View.rep_emb]
  show v b z = v (rowBlk (inRes b z)) (rowIn (inRes b z))
  rw [rowBlk_inRes, rowIn_inRes]

omit [FloatOps F] in
theorem islotP_eq (s : Fin 3) (f) : islotP c s f = (((c : Thread nD τ).loc cc0_scoped0) ↦[setI s]{fullShare} f : sProp 𝕄) :=
  congrArg (fun S => (_ ↦[S]{fullShare} f : sProp 𝕄)) (islot_set s)
omit [FloatOps F] in
theorem oslotP_eq (s : Fin 2) (f) : oslotP c s f = (((c : Thread nD τ).loc cc0_scoped2) ↦[setO s]{fullShare} f : sProp 𝕄) :=
  congrArg (fun S => (_ ↦[S]{fullShare} f : sProp 𝕄)) (oslot_set s)

omit [FloatOps F] in
/-- The matrix's buffer whole is its three slots, and back; -/
theorem in_split :
    iprop(∃ f : Buf (Elt F) ((c : Thread nD τ).loc cc0_scoped0), ((c : Thread nD τ).loc cc0_scoped0) ↦{fullShare} f)
      ⊢ (iprop((∃ f, islotP c 0 f) ∗ (∃ f, islotP c 1 f) ∗ ∃ f, islotP c 2 f) : sProp 𝕄) :=
  Ring.slots3_split (ℓ := (c : Thread nD τ).loc cc0_scoped0) setI setI_disjoint setI_cover _ _ _ (islotP_eq c 0) (islotP_eq c 1) (islotP_eq c 2)
omit [FloatOps F] in
theorem in_join :
    iprop((∃ f, islotP c 0 f) ∗ (∃ f, islotP c 1 f) ∗ ∃ f, islotP c 2 f)
      ⊢ (iprop(∃ f : Buf (Elt F) ((c : Thread nD τ).loc cc0_scoped0), ((c : Thread nD τ).loc cc0_scoped0) ↦{fullShare} f) : sProp 𝕄) :=
  Ring.slots3_join (ℓ := (c : Thread nD τ).loc cc0_scoped0) setI setI_disjoint setI_cover _ _ _ (islotP_eq c 0) (islotP_eq c 1) (islotP_eq c 2)
omit [FloatOps F] in
/-- the result's buffer whole is its two slots, and back. -/
theorem out_split :
    iprop(∃ f : Buf (Elt F) ((c : Thread nD τ).loc cc0_scoped2), ((c : Thread nD τ).loc cc0_scoped2) ↦{fullShare} f)
      ⊢ (iprop((∃ f, oslotP c 0 f) ∗ ∃ f, oslotP c 1 f) : sProp 𝕄) :=
  Ring.slots2_split (ℓ := (c : Thread nD τ).loc cc0_scoped2) setO setO_disjoint setO_cover _ _ (oslotP_eq c 0) (oslotP_eq c 1)
omit [FloatOps F] in
theorem out_join :
    iprop((∃ f, oslotP c 0 f) ∗ ∃ f, oslotP c 1 f)
      ⊢ (iprop(∃ f : Buf (Elt F) ((c : Thread nD τ).loc cc0_scoped2), ((c : Thread nD τ).loc cc0_scoped2) ↦{fullShare} f) : sProp 𝕄) :=
  Ring.slots2_join (ℓ := (c : Thread nD τ).loc cc0_scoped2) setO setO_disjoint setO_cover _ _ (oslotP_eq c 0) (oslotP_eq c 1)

omit [FloatOps F] in
/-- At the body's entry the matrix's first two blocks stand apart, -/
theorem homes_zero (XA : Buf (Elt F) (adjM.view.loc (c : Thread nD τ))) :
    bigSep Finset.univ (homeP c XA) = (iprop(homeP c XA 0 ∗ homeP c XA 1 ∗ bigSep (Ring.homeSet 2 0) (homeP c XA)) : sProp 𝕄) := by
  have e : (Finset.univ : Finset (Fin 25)) = insert 0 (insert 1 (Ring.homeSet (NB := 25) 2 0)) := by decide
  rw [e, bigSep_insert (by decide), bigSep_insert (by decide)]; rfl
omit [FloatOps F] in
/-- and every block of the result is ahead, none behind. -/
theorem ahead_zero (XR : Buf (Elt F) (outM.view.loc (c : Thread nD τ))) :
    bigSep Finset.univ (aheadP c XR) = (bigSep (Ring.aheadSet 0) (aheadP c XR) : sProp 𝕄) := by
  rw [Ring.aheadSet_zero]
omit [FloatOps F] in
theorem behind_zero (P : Fin 25 → sProp 𝕄) : (BI.emp : sProp 𝕄) ⊢ bigSep (Ring.behindSet 1 0) P := by
  rw [show Ring.behindSet (NB := 25) 1 0 = ∅ from by decide]; exact .rfl

/-- The kernel's own semaphores: three for the matrix's slots, two for the result's. -/
abbrev kcell : Fin 5 → SemLoc sig := ![.dma (isem 0).sem, .dma (isem 1).sem, .dma (isem 2).sem, .dma (osem 0).sem, .dma (osem 1).sem]
theorem ownSemFacts : Pipeline.OwnSemFacts spec0 kcell := by decide
omit [FloatOps F] in
theorem ownSems0_eq : (Pipeline.ownSems0 (Ix := Unit) (Name := ℕ) (U := UU nD τ) (Lvl := ℕ) (Val := Elt F) (τ := τ) kcell c : sProp 𝕄)
    = iprop(icell c 0 ∗ icell c 1 ∗ icell c 2 ∗ ocell c 0 ∗ ocell c 1) := by
  unfold Pipeline.ownSems0
  exact bigSep_univ_eq_bigSepL [(0 : Fin 5), (1 : Fin 5), (2 : Fin 5), (3 : Fin 5), (4 : Fin 5)] (by decide) (by decide) _

end Split

/-! ## The region's proof data -/

section Launch
variable (m : (ℓ : Loc nD τ sig) → Buf (Elt F) ℓ) (ρ : Dev nD → PrngReg)

/-- The adjacency matrix at launch. -/
abbrev adj0 (c : Dev nD) : Buf (Elt F) (adjM.view.loc (c : Thread nD τ)) := m ((c : Thread nD τ).loc main_arg1)

abbrev st0 (t : Fin cfg0.N) : Memref sig .tc .vmem S10000x256 .f32 := win0_0.stage (cfg0.slots t 0)
abbrev st1 (t : Fin cfg0.N) : Memref sig .tc .vmem S256x256 .f32 := win0_1.stage (cfg0.slots t 1)
abbrev st2 (t : Fin cfg0.N) : Memref sig .tc .vmem S1x256 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- Block `b` of the result, from the arrays as the region finds them. -/
def blkV (c : Dev nD) (b : Fin 25) : S400x256.Idx → Elt F .f32 :=
  outV c (adj0 m c) (Gen.iblk m c 0 t0_0) (Gen.iblk m c 1 t0_0) (Gen.iblk m c 2 t0_0) b
/-- The result. -/
def resV (c : Dev nD) : Buf (Elt F) ((c : Thread nD τ).loc main_v1) := joinRows (blkV m c)

/-- What the region holds beside its windows: the matrix as launched, the result at `R`, the slots at anything, the
    semaphores at zero. -/
def held (c : Dev nD) (R : Buf (Elt F) ((c : Thread nD τ).loc main_v1)) : sProp 𝕄 :=
  iprop((((c : Thread nD τ).loc main_arg1) ↦{fullShare} adj0 m c) ∗ (((c : Thread nD τ).loc main_v1) ↦{fullShare} R)
    ∗ ifree c 0 ∗ ifree c 1 ∗ ifree c 2 ∗ ofree c 0 ∗ ofree c 1)
/-- Before the one point the result is as launched, after it the computed one. -/
def Φ (c : Dev nD) (t : Fin (cfg0.N + 1)) : sProp 𝕄 :=
  held m c (if t.val = 0 then Gen.V m c main_v1 else resV m c)

def dats (_ : Fin 1) (c : Dev nD) : Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
  Φ t := Φ m c t
  q _ := fullShare
  owed _ := 0

theorem after_w0 (c : Dev nD) (t : Fin cfg0.N) : (dats m 0 c).after 0 t = Gen.iblk m c 0 t := by dsimp only [dats]
theorem after_w1 (c : Dev nD) (t : Fin cfg0.N) : (dats m 0 c).after 1 t = Gen.iblk m c 1 t := by dsimp only [dats]
theorem after_w2 (c : Dev nD) (t : Fin cfg0.N) : (dats m 0 c).after 2 t = Gen.iblk m c 2 t := by dsimp only [dats]
theorem before_w0 (c : Dev nD) (t : Fin cfg0.N) (d) : (dats m 0 c).before 0 t d = Gen.iblk m c 0 t := by
  unfold Dat.before; rw [if_pos (fetch0_0 t)]; unfold Dat.fetched Dat.blockOf Gen.iblk; dsimp only [dats]; rfl
theorem before_w1 (c : Dev nD) (t : Fin cfg0.N) (d) : (dats m 0 c).before 1 t d = Gen.iblk m c 1 t := by
  unfold Dat.before; rw [if_pos (fetch0_1 t)]; unfold Dat.fetched Dat.blockOf Gen.iblk; dsimp only [dats]; rfl
theorem before_w2 (c : Dev nD) (t : Fin cfg0.N) (d) : (dats m 0 c).before 2 t d = Gen.iblk m c 2 t := by
  unfold Dat.before; rw [if_pos (fetch0_2 t)]; unfold Dat.fetched Dat.blockOf Gen.iblk; dsimp only [dats]; rfl

/-- The region's body is the kernel on the point's staging buffers. -/
theorem defs_tc : (defs₀ (F := F)) .tc cfg0.body
    = fun a => bodyG (F := F) (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

/-- What the body leaves in the result is the blocks joined. -/
theorem post_res (c : Dev nD) (t : Fin cfg0.N) :
    bigSep Finset.univ (doneG c (adj0 m c) (st0 t) (st1 t) (st2 t) ((st0 t).view.rep (Gen.iblk m c 0 t)) ((st1 t).view.rep (Gen.iblk m c 1 t)) ((st2 t).view.rep (Gen.iblk m c 2 t)))
      ⊢ (((c : Thread nD τ).loc main_v1) ↦{fullShare} resV m c : sProp 𝕄) := by
  have e : t = t0_0 := fin_N0 t
  subst e
  unfold resV
  rw [← done_eq]
  refine same_res (bigSep_congr fun b _ => ?_)
  unfold doneG outG blkV
  rw [View.read_rep, View.read_rep, View.read_rep]

set_option backward.isDefEq.respectTransparency.types false in
/-- The body meets the region's obligation at its one point. -/
theorem body_obligation (c : Dev nD) : BodyObligation (dats (F := F) m 0 c) (defs₀ (F := F)) 𝒱₀ () Set.univ := fun t => by
  have e : t.val = 0 := by rw [fin_N0 t]; rfl
  rw [bigSep_W0, bigSep_W0]
  dsimp only
  simp only [before_w0, before_w1, before_w2, after_w0, after_w1, after_w2]
  rw [show (dats m 0 c).Φ t.castSucc = held m c (Gen.V m c main_v1) from by show Φ m c t.castSucc = _; unfold Φ; rw [if_pos (by simpa using e)],
    show (dats m 0 c).Φ t.succ = held m c (resV m c) from by show Φ m c t.succ = _; unfold Φ; rw [if_neg (by simp)]]
  unfold Dat.owesAt Pipeline.owesWithin
  rw [show (dats m 0 c).owed t.castSucc = 0 from rfl, show (dats m 0 c).owed t.succ = 0 from rfl]
  unfold owns held
  iintro ⟨⟨HA, HR, Hi0, Hi1, Hi2, Ho0, Ho1⟩, ⟨%W, -, HW⟩, ⟨%d0, %g0, %hg0, H0⟩, ⟨%d1, %g1, %hg1, H1⟩, ⟨%d2, %g2, %hg2, H2⟩⟩
  ihave HA' := (same_res ((adj_eq c (adj0 m c)).trans (homes_zero c (adj0 m c)))) $$ HA
  icases HA' with ⟨Hg0, Hg1, Hh⟩
  ihave HR' := (same_res ((res_eq c (Gen.V m c main_v1)).trans (ahead_zero c (Gen.V m c main_v1)))) $$ HR
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  rw [hg0, hg1, hg2]
  sl_rw [prog_eq t]
  iapply (bodyRun c (adj0 m c) (Gen.V m c main_v1) (st0 t) (hst0 t) (st1 t) (hst1 t) (st2 t) (hst2 t) _ _ _ W)
  isplitl [H0' H1' H2' HW Hg0 Hg1 Hh HR' Hi0 Hi1 Hi2 Ho0 Ho1]
  · isplitl [H0']; · iexact H0'
    isplitl [H1']; · iexact H1'
    isplitl [H2']; · iexact H2'
    isplitl [HW]; · iexact HW
    isplitl [Hg0]; · iexact Hg0
    isplitl [Hg1]; · iexact Hg1
    isplitl [Hh]; · iexact Hh
    isplitl [HR']; · iexact HR'
    isplitr; · iapply (behind_zero (F := F) _); iempintro
    isplitl [Hi0]; · iexact Hi0
    isplitl [Hi1]; · iexact Hi1
    isplitl [Hi2]; · iexact Hi2
    isplitl [Ho0]; · iexact Ho0
    iexact Ho1
  · iintro ⟨H0, H1, H2, ⟨%W', HW⟩, HA, HR, Hi0, Hi1, Hi2, Ho0, Ho1⟩
    isplitl [HA HR Hi0 Hi1 Hi2 Ho0 Ho1]
    · isplitl [HA]; · iapply (same_res (adj_eq c (adj0 m c)).symm); iexact HA
      isplitl [HR]; · iapply (post_res m c t); iexact HR
      isplitl [Hi0]; · iexact Hi0
      isplitl [Hi1]; · iexact Hi1
      isplitl [Hi2]; · iexact Hi2
      isplitl [Ho0]; · iexact Ho0
      iexact Ho1
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr; · ipureintro; exact View.read_rep _ _
    iexact H2

/-! ## The run -/

/-- What enters the region beside the windows, -/
def intoΦ (c : Dev nD) : sProp 𝕄 :=
  iprop((((c : Thread nD τ).loc main_arg1) ↦{fullShare} adj0 m c) ∗ (((c : Thread nD τ).loc main_v1) ↦{fullShare} Gen.V m c main_v1) ∗ Pipeline.ownSems0 kcell c)
/-- what leaves it, -/
def outOfΦ (c : Dev nD) : sProp 𝕄 :=
  iprop((((c : Thread nD τ).loc main_arg1) ↦{fullShare} adj0 m c) ∗ (((c : Thread nD τ).loc main_v1) ↦{fullShare} resV m c))
/-- and what stays outside: the bias as the caller gave it. -/
def aside (c : Dev nD) : sProp 𝕄 := ((c : Thread nD τ).loc main_arg3) ↦{fullShare} m ((c : Thread nD τ).loc main_arg3)
def u₀ : UU nD τ := (initOf (Pipeline.cells cfgs Gen.cellOf_inj) (Pipeline.launchToks cfgs Gen.cellOf_inj), 1)
def QY (c : Dev nD) (s : MemSt nD τ sig (Elt F)) : Prop :=
  s.mem ((c : Thread nD τ).loc main_v1) = resV m c ∧ s.mem ((c : Thread nD τ).loc main_arg1) = m ((c : Thread nD τ).loc main_arg1)
    ∧ s.mem ((c : Thread nD τ).loc main_arg3) = m ((c : Thread nD τ).loc main_arg3)
/-- The final states: the result as computed, the four arguments unchanged. -/
def QC : PUnit × MemSt nD τ sig (Elt F) → Prop := fun r => ∀ c : Dev nD,
  r.2.mem ((c : Thread nD τ).loc main_v1) = resV m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)

set_option backward.isDefEq.respectTransparency.types false in
set_option maxHeartbeats 800000 in
/-- Every run of @main ends, with the result as computed, the arguments unchanged and every semaphore at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ _ => rfl)
    (X := intoΦ m) (Y := outOfΦ m) (Z := aside m)
    (hX := fun c => by
      rw [unscopedRest0_eq, Gen.V_main_arg1, Gen.V_main_arg3]
      unfold intoΦ aside
      iintro ⟨⟨HA, HB, HR⟩, HS, -, -, -⟩; imodintro
      isplitl [HA HR HS]
      · isplitl [HA]; · iexact HA
        isplitl [HR]; · iexact HR
        iexact HS
      iexact HB)
    (hin := fun c => by
      rw [scopedRest0_eq, show (dats m 0 c).Φ 0 = held m c (Gen.V m c main_v1) from by show Φ m c 0 = _; unfold Φ; rw [if_pos (show (0 : Fin (cfg0.N + 1)).val = 0 from rfl)]]
      unfold intoΦ held; rw [ownSems0_eq]
      iintro ⟨⟨HA, HR, Hc0, Hc1, Hc2, Hd0, Hd1⟩, HI, HO⟩
      ihave HI' := (in_split c) $$ HI
      icases HI' with ⟨Hi0, Hi1, Hi2⟩
      ihave HO' := (out_split c) $$ HO
      icases HO' with ⟨Ho0, Ho1⟩
      isplitl [HA]; · iexact HA
      isplitl [HR]; · iexact HR
      isplitl [Hi0 Hc0]; · isplitl [Hi0]; · iexact Hi0
                           iexact Hc0
      isplitl [Hi1 Hc1]; · isplitl [Hi1]; · iexact Hi1
                           iexact Hc1
      isplitl [Hi2 Hc2]; · isplitl [Hi2]; · iexact Hi2
                           iexact Hc2
      isplitl [Ho0 Hd0]; · isplitl [Ho0]; · iexact Ho0
                           iexact Hd0
      isplitl [Ho1]; · iexact Ho1
      iexact Hd1)
    (hout := fun c => by
      rw [scopedRest0_eq, show (dats m 0 c).Φ (Fin.last cfg0.N) = held m c (resV m c) from by show Φ m c (Fin.last cfg0.N) = _; unfold Φ; rw [if_neg (by decide)],
        ownSems0_eq]
      unfold held outOfΦ
      iintro ⟨HA, HR, ⟨Hi0, Hc0⟩, ⟨Hi1, Hc1⟩, ⟨Hi2, Hc2⟩, ⟨Ho0, Hd0⟩, ⟨Ho1, Hd1⟩⟩
      isplitl [HA HR]
      · isplitl [HA]; · iexact HA
        iexact HR
      isplitl [Hc0 Hc1 Hc2 Hd0 Hd1]
      · isplitl [Hc0]; · iexact Hc0
        isplitl [Hc1]; · iexact Hc1
        isplitl [Hc2]; · iexact Hc2
        isplitl [Hd0]; · iexact Hd0
        iexact Hd1
      isplitl [Hi0 Hi1 Hi2]
      · iapply (in_join c)
        isplitl [Hi0]; · iexact Hi0
        isplitl [Hi1]; · iexact Hi1
        iexact Hi2
      iapply (out_join c)
      isplitl [Ho0]; · iexact Ho0
      iexact Ho1)
    (QY := QY m)
    (hY := fun c s' => by
      unfold outOfΦ aside
      iintro ⟨⟨HA, HR⟩, HB, HSI⟩
      icombine HSI HA gives %h1
      icombine HSI HR gives %h2
      icombine HSI HB gives %h3
      imodintro
      isplitr
      · ipureintro
        exact ⟨Buf.eq_of_forall_mem_univ h2, Buf.eq_of_forall_mem_univ h1, Buf.eq_of_forall_mem_univ h3⟩
      iexact HSI)
    (hQ := fun s hh hz => ⟨fun c => ⟨(hh c).2.1,
      ((hh c).1 0).trans (((dats m 0 c).arrAt_in 0 rfl _).trans (Gen.V_main_arg0 m c)), (hh c).2.2.1,
      ((hh c).1 1).trans (((dats m 0 c).arrAt_in 1 rfl _).trans (Gen.V_main_arg2 m c)), (hh c).2.2.2⟩, hz⟩)

end Launch

end Cert.Proof.Gcn

end
-- ==== Proof.Value.lean ====
/-
  What the kernel writes and what the reference computes, read entry by entry at the extended reals, and their equality
  where the three factors are finite.
-/
module

public import proofs.«01_k».proof.Proof.Launch
public import proofs.«01_k».proof.Proof.Gen.ReferenceIdeal
public import proofs.«01_k».proof.Proof.Gen.Pre_finite
public import Idealize.ShloMosaic.Lib.MatmulPlain
public import Idealize.ShloMosaic.Lib.StackMember
public import Idealize.ShloMosaic.Lib.KernelVsHost
public import Idealize.ShloMosaic.Lib.ValueLayout
public import Idealize.ShloMosaic.Lib.Pipeline.Value

@[expose] public section

set_option maxRecDepth 16384

noncomputable section

namespace Cert.Proof.Gcn

open Cert.KernelIdeal Cert.KernelIdeal.Gen
open Idealize.ShloMosaic Idealize.ShloMosaic.TcCoe Idealize.ShloMosaic.ValueIdx
open Idealize.SL.Sem
open scoped BigOperators

/-! ## Finite sums of reals inside the extended reals -/

/-- A finite sum of reals, taken in the extended reals, is the real sum. -/
theorem coe_sum_real {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- Multiplying a row by two matrices in turn, or by their product, gives the same entry when every number is real. -/
theorem row_assoc {n k : ℕ} (a : Fin n → ℝ) (x : Fin n → Fin k → ℝ) (w : Fin k → ℝ) :
    ∑ j, (∑ i, (a i : EReal) * (x i j : EReal)) * (w j : EReal) = ∑ i, (a i : EReal) * ∑ j, (x i j : EReal) * (w j : EReal) := by
  simp only [← EReal.coe_mul, coe_sum_real]
  congr 1
  simp only [Finset.sum_mul, Finset.mul_sum]
  rw [Finset.sum_comm]
  exact Finset.sum_congr rfl fun i _ => Finset.sum_congr rfl fun j _ => mul_assoc _ _ _

/-! ## The precondition read: a finite entry is a real -/

/-- The float word of `+∞` is the top of the extended reals. -/
theorem inf_word : Ideal.ofBits .f32 0x7F800000#32 = ⊤ := by simp [Ideal.ofBits, Ideal.ieee]

/-- What is strictly less than `+∞` in absolute value is a real number. -/
theorem real_of_abs_lt (x : EReal) (h : Ideal.cmp .olt (max x (-x)) (Ideal.ofBits .f32 0x7F800000#32) = 1#1) :
    ∃ r : ℝ, x = (r : EReal) := by
  rw [inf_word] at h
  induction x with
  | bot => simp [Ideal.cmp] at h
  | top => simp [Ideal.cmp] at h
  | coe r => exact ⟨r, rfl⟩

/-- An array whose every entry is below `+∞` in absolute value is an array of reals. -/
theorem reals_of_finite {s u : Shape} (x : FVec Ideal s .f32) (d : Fin u.rank → Fin s.rank) (hb : u.BroadcastsInDim s d)
    (h : cmpf .olt (Host.absf x) (broadcastInDim s d hb (constant u .f32 0x7F800000#32)) = fun _ => 1#1) :
    ∃ r : s.Idx → ℝ, ∀ i, x i = (r i : EReal) := by
  have hx : ∀ i, ∃ r : ℝ, x i = (r : EReal) := fun i => real_of_abs_lt (x i) (congrFun h i)
  exact ⟨fun i => (hx i).choose, fun i => (hx i).choose_spec⟩

/-! ## The kernel's block, entry by entry -/

/-- Entry (i, j) of block `b` of the adjacency matrix is its entry (400 b + i, j). -/
theorem adjV_apply {F : FTy → Type} (c : Dev nD) (XA : S10000x10000.Idx → Elt F .f32) (b : Fin 25) (i : Fin 400) (j : Fin 10000)
    (r : Fin 10000) (hr : r.val = 400 * b.val + i.val) :
    adjV (F := F) c XA b (ix2 i j) = XA (ix2 r j) := by
  unfold adjV ablk
  rw [View.read_apply]
  refine congrArg XA (funext fun a => Fin.ext ?_)
  show ((Rect.unit (s := S10000x10000) (adjOff b) S400x10000.size (adjOff_inb b)).emb (ix2 i j) a).val = _
  rw [Rect.emb_apply]
  match a with
  | ⟨0, _⟩ => show 400 * b.val + 1 * i.val = r.val; omega
  | ⟨1, _⟩ => show 0 + 1 * j.val = j.val; omega

/-- A block's result, entry by entry: the block's row times the input, the outcome times the weight, and the bias. -/
theorem outV_apply (c : Dev nD) (XA : S10000x10000.Idx → EReal) (xv : S10000x256.Idx → EReal) (wv : S256x256.Idx → EReal)
    (bv : S256.Idx → EReal) (hb : S256.ShapeCasts S1x256) (b : Fin 25) (i : Fin 400) (n : Fin 256) :
    outV (F := Ideal) c XA xv wv (shapeCast S1x256 bv hb) b (ix2 i n)
      = (∑ j : Fin 256, (∑ k : Fin 10000, adjV (F := Ideal) c XA b (ix2 i k) * xv (ix2 k j)) * wv (ix2 j n)) + bv (ix1 n) := by
  have e : outV (F := Ideal) c XA xv wv (shapeCast S1x256 bv hb) b
      = addf (F := Ideal) (φ := .f32) (matmul (F := Ideal) (φ₁ := .f32) (φ₂ := .f32) (DotDims.plain 400 256 256) none
          (matmul (F := Ideal) (φ₁ := .f32) (φ₂ := .f32) (DotDims.plain 400 10000 256) none (adjV (F := Ideal) c XA b) xv (constant S400x256 .f32 0x00000000#32))
          wv (constant S400x256 .f32 0x00000000#32))
        (broadcastTo S400x256 (shapeCast S1x256 bv hb) broadcasts_S1x256_S400x256) := by
    unfold outV k0_pay1
    rw [shapeCast_shapeCast, shapeCast_self]
    rfl
  rw [e, addf_apply]
  have e1 : broadcastTo S400x256 (shapeCast S1x256 bv hb) broadcasts_S1x256_S400x256 (ix2 i n) = bv (ix1 n) := by
    refine (broadcastTo_apply (s := S1x256) _ _ _ (ix2 (0 : Fin 1) n) (fun a => ?_)).trans (shapeCast_a_1a_apply bv hb 0 n)
    match a with
    | ⟨0, _⟩ => rfl
    | ⟨1, _⟩ => rfl
  rw [e1]
  refine congrArg (· + bv (ix1 n)) ?_
  refine (Ideal.matmul_plain_apply none _ wv _ i n).trans ?_
  rw [constant_apply, Ideal.ofBits_zero_f32, zero_add]
  refine Finset.sum_congr rfl fun j _ => congrArg (· * wv (ix2 j n)) ?_
  refine (Ideal.matmul_plain_apply none _ xv _ i j).trans ?_
  rw [constant_apply, Ideal.ofBits_zero_f32, zero_add]

/-! ## The arrays held whole, as launched -/

section Whole
variable {F : FTy → Type} [FloatOps F] (m : (ℓ : Loc nD τ sig) → Buf (Elt F) ℓ) (c : Dev nD)

/-- The first window holds the input array whole. -/
theorem whole_input : Gen.iblk m c 0 t0_0 = m ((c : Thread nD τ).loc main_arg0) := by
  have hz : (fun a => (win0_0.index t0_0) a * main_arg0.ty.shape.size a) = fun _ => 0 := funext fun a => by fin_cases a <;> decide
  have hr := fun f => Memref.read_access_unit_zero (Elt F) main_arg0 hz (fun a => by fin_cases a <;> decide) f
  unfold Gen.iblk
  exact (hr _).trans (Gen.V_main_arg0 m c)
/-- The second holds the weight, -/
theorem whole_weight : Gen.iblk m c 1 t0_0 = m ((c : Thread nD τ).loc main_arg2) := by
  have hz : (fun a => (win0_1.index t0_0) a * main_arg2.ty.shape.size a) = fun _ => 0 := funext fun a => by fin_cases a <;> decide
  have hr := fun f => Memref.read_access_unit_zero (Elt F) main_arg2 hz (fun a => by fin_cases a <;> decide) f
  unfold Gen.iblk
  exact (hr _).trans (Gen.V_main_arg2 m c)
/-- and the third the bias, reshaped to one row. -/
theorem whole_bias : Gen.iblk m c 2 t0_0 = shapeCast S1x256 (m ((c : Thread nD τ).loc main_arg3)) shapeCasts_S256_S1x256 := by
  have hz : (fun a => (win0_2.index t0_0) a * main_v0.ty.shape.size a) = fun _ => 0 := funext fun a => by fin_cases a <;> decide
  have hr := fun f => Memref.read_access_unit_zero (Elt F) main_v0 hz (fun a => by fin_cases a <;> decide) f
  unfold Gen.iblk
  refine (hr _).trans ?_
  show StableHlo.after hostOps0 (fun b => m (c, b)) (Proc.devRef .tc main_v0) = _
  after_results
  rfl

end Whole

/-! ## The reference, entry by entry -/

/-- The reference's array: the adjacency matrix times the product of the input and the weight, plus the bias along each row. -/
def refArr (XA : S10000x10000.Idx → EReal) (xv : S10000x256.Idx → EReal) (wv : S256x256.Idx → EReal) (bv : S256.Idx → EReal) :
    FVec Ideal S10000x256 .f32 :=
  addf (F := Ideal) (φ := .f32)
    (Host.dotGeneral (F := Ideal) (φ₁ := .f32) (φ₂ := .f32) Cert.ReferenceIdeal.dot_S10000x10000_S10000x256_S10000x256_1_0_0_1_n_n none XA
      (Host.dotGeneral (F := Ideal) (φ₁ := .f32) (φ₂ := .f32) Cert.ReferenceIdeal.dot_S10000x256_S256x256_S10000x256_1_0_0_1_n_n none xv wv))
    (broadcastInDim Cert.ReferenceIdeal.S10000x256 ![0, 1] Cert.ReferenceIdeal.Gen.bcast_S1x256_S10000x256_0_1
      (broadcastInDim Cert.ReferenceIdeal.S1x256 ![1] Cert.ReferenceIdeal.Gen.bcast_S256_S1x256_1 bv))

/-- Its entry (r, n). -/
theorem refArr_apply (XA : S10000x10000.Idx → EReal) (xv : S10000x256.Idx → EReal) (wv : S256x256.Idx → EReal) (bv : S256.Idx → EReal)
    (r : Fin 10000) (n : Fin 256) :
    refArr XA xv wv bv (ix2 r n)
      = (∑ k : Fin 10000, XA (ix2 r k) * ∑ j : Fin 256, xv (ix2 k j) * wv (ix2 j n)) + bv (ix1 n) := by
  unfold refArr
  rw [addf_apply]
  have e1 := (broadcastInDim_oneRow_apply (m := 10000) Cert.ReferenceIdeal.Gen.bcast_S1x256_S10000x256_0_1
    (broadcastInDim Cert.ReferenceIdeal.S1x256 ![1] Cert.ReferenceIdeal.Gen.bcast_S256_S1x256_1 bv) r n).trans
    (broadcastInDim_apply (s := S256) (t := S1x256) ![1] Cert.ReferenceIdeal.Gen.bcast_S256_S1x256_1 bv (ix2 (0 : Fin 1) n) (ix1 n) (fun a => by
      match a with
      | ⟨0, _⟩ => rfl))
  refine congrArg₂ (· + ·) ?_ e1
  refine (StackMember.dotGeneral_plain_apply none XA _ r n).trans (Finset.sum_congr rfl fun k _ => congrArg (XA (ix2 r k) * ·) ?_)
  exact StackMember.dotGeneral_plain_apply none xv wv k n

/-! ## Equal where the factors are finite -/

/-- With every entry of the three factors finite, the array the kernel leaves is the reference's. -/
theorem resV_eq (m : (ℓ : Loc nD τ sig) → Buf (Elt Ideal) ℓ) (c : Dev nD)
    (hx : ∃ r : S10000x256.Idx → ℝ, ∀ i, (m ((c : Thread nD τ).loc main_arg0) : S10000x256.Idx → EReal) i = (r i : EReal))
    (ha : ∃ r : S10000x10000.Idx → ℝ, ∀ i, (m ((c : Thread nD τ).loc main_arg1) : S10000x10000.Idx → EReal) i = (r i : EReal))
    (hw : ∃ r : S256x256.Idx → ℝ, ∀ i, (m ((c : Thread nD τ).loc main_arg2) : S256x256.Idx → EReal) i = (r i : EReal)) :
    resV (F := Ideal) m c = refArr (m ((c : Thread nD τ).loc main_arg1)) (m ((c : Thread nD τ).loc main_arg0))
      (m ((c : Thread nD τ).loc main_arg2)) (m ((c : Thread nD τ).loc main_arg3)) := by
  obtain ⟨x, hx⟩ := hx
  obtain ⟨a, ha⟩ := ha
  obtain ⟨w, hw⟩ := hw
  funext y
  obtain ⟨r, n, rfl⟩ : ∃ (r : Fin 10000) (n : Fin 256), y = ix2 r n := ⟨y 0, y 1, eq_ix2 y⟩
  have hlt : r.val % 400 < 400 := Nat.mod_lt _ (by decide)
  have hin : rowIn (ix2 r n) = ix2 (⟨r.val % 400, hlt⟩ : Fin 400) n := by
    funext a; apply Fin.ext
    match a with
    | ⟨0, _⟩ => rfl
    | ⟨1, _⟩ => rfl
  have hrow : r.val = 400 * (rowBlk (ix2 r n)).val + r.val % 400 := (Nat.div_add_mod r.val 400).symm
  show blkV (F := Ideal) m c (rowBlk (ix2 r n)) (rowIn (ix2 r n)) = _
  unfold blkV
  rw [whole_input, whole_weight, whole_bias, hin]
  refine (outV_apply c _ _ _ _ _ _ _ n).trans (Eq.trans ?_ (refArr_apply _ _ _ _ r n).symm)
  refine congrArg (· + (m ((c : Thread nD τ).loc main_arg3) : S256.Idx → EReal) (ix1 n)) ?_
  refine Eq.trans ?_ ((row_assoc (fun k => a (ix2 r k)) (fun k j => x (ix2 k j)) (fun j => w (ix2 j n))).trans ?_)
  · refine Finset.sum_congr rfl fun j _ => congrArg₂ (· * ·) (Finset.sum_congr rfl fun k _ => congrArg₂ (· * ·) ?_ (hx _)) (hw _)
    exact (adjV_apply (F := Ideal) c (adj0 m c) _ _ k r hrow).trans (ha _)
  · refine Finset.sum_congr rfl fun k _ => congrArg₂ (· * ·) (ha _).symm (Finset.sum_congr rfl fun j _ => congrArg₂ (· * ·) (hx _).symm (hw _).symm)

end Cert.Proof.Gcn

end
-- ==== Proof.lean ====
/-
  The certificate: the claims about the kernel and the reference, gathered.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Launch
public import proofs.«01_k».proof.Proof.Value
public import Idealize.ShloMosaic.Lib.Claim

@[expose] public section

set_option maxRecDepth 16384

noncomputable section

namespace Cert.Proof

open Idealize.ShloMosaic Idealize.ShloMosaic.TcCoe Idealize.SL.Sem

/-- The idealized program, at any float values, runs without a fault, leaves its arguments as they were and ends with
    every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨fun c => (h.1 c).2, h.2⟩) (Gcn.run_main m ρ)

/-- The two programs' tables of kernel bodies are one table. -/
theorem bodies_eq {F : FTy → Type} [FloatOps F] : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl

/-- The kernel as printed is the same program: its run is that one, read at the bit patterns. -/
theorem frame_kernel : Cert.quiescent_Kernel := by
  intro m ρ _
  have h := frame_any (F := Bits) m ρ
  unfold Cert.KernelIdeal.defs at h
  rw [bodies_eq] at h
  exact h

/-- The idealized program's, at the extended reals. -/
theorem frame_ideal : Cert.quiescent_KernelIdeal := fun m ρ _ => frame_any (F := Ideal) m ρ

/-- The reference runs, leaves its arguments as they were, and has no semaphore that could be other than zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From factors that are finite, the kernel's result array and the reference's end equal at the extended reals. -/
theorem same_result : Cert.algebraic_KernelIdeal_ReferenceIdeal_pre_finite := by
  intro m ρ m' ρ' hpre hagree
  refine ⟨fun c => Gcn.resV (F := Ideal) m c,
    (θ_run Cert.KernelIdeal.defs _ _).mono (fun _ h => h.1) (Gcn.run_main (F := Ideal) m ρ),
    (θ_run Cert.ReferenceIdeal.defs _ _).mono (fun _ h c => ⟨(h c).1.trans ?_, (h c).2⟩)
      (Cert.ReferenceIdeal.Value.run (F := Ideal) m' ρ')⟩
  obtain ⟨e0, e1, e2, e3⟩ := hagree c
  obtain ⟨hx, ha, hw⟩ := hpre c
  rw [e0, e1, e2, e3]
  exact (Gcn.resV_eq m c (Gcn.reals_of_finite _ _ _ hx) (Gcn.reals_of_finite _ _ _ ha) (Gcn.reals_of_finite _ _ _ hw)).symm

/-- All the claims. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial,
    trivial, same_result⟩

end Cert.Proof

end
